-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usage_nonneg [hPre_usage_nonneg : Cert.Pre_usage_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_usage_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usage_nonneg [hPre_usage_nonneg : Cert.Pre_usage_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usage_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_usage_nonneg [hKernelIdeal : Cert.KernelIdeal.Facts] [hPre_usage_nonneg : Cert.Pre_usage_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usage_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_usage_nonneg [hReferenceIdeal : Cert.ReferenceIdeal.Facts] [hPre_usage_nonneg : Cert.Pre_usage_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usage_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_usage_nonneg [hKernelIdeal : Cert.KernelIdeal.Facts] [hReferenceIdeal : Cert.ReferenceIdeal.Facts] [hPre_usage_nonneg : Cert.Pre_usage_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usage_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_usage_nonneg : Cert.Pre_usage_nonneg.Facts),
    quiescent_Kernel (hKernel := hKernel)
    ∧ quiescent_KernelIdeal (hKernelIdeal := hKernelIdeal)
    ∧ quiescent_KernelIdeal_pre_usage_nonneg (hKernelIdeal := hKernelIdeal) (hPre_usage_nonneg := hPre_usage_nonneg)
    ∧ quiescent_ReferenceIdeal (hReferenceIdeal := hReferenceIdeal)
    ∧ quiescent_ReferenceIdeal_pre_usage_nonneg (hReferenceIdeal := hReferenceIdeal) (hPre_usage_nonneg := hPre_usage_nonneg)
    ∧ preserves_Kernel_KernelIdeal
    ∧ algebraic_KernelIdeal_ReferenceIdeal_pre_usage_nonneg (hKernelIdeal := hKernelIdeal) (hReferenceIdeal := hReferenceIdeal) (hPre_usage_nonneg := hPre_usage_nonneg)
-- ==== Pre_usage_nonneg.lean ====
abbrev S1024x512 : Shape := ⟨2, ![1024, 512]⟩
abbrev S1024x1024x64 : Shape := ⟨3, ![1024, 1024, 64]⟩
abbrev S1024x1024 : Shape := ⟨2, ![1024, 1024]⟩
abbrev S512x64 : Shape := ⟨2, ![512, 64]⟩
abbrev S64 : Shape := ⟨1, ![64]⟩
abbrev S512x1 : Shape := ⟨2, ![512, 1]⟩
abbrev S1 : Shape := ⟨1, ![1]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : FVec F S1024x512 .f32) (main_arg1 : FVec F S1024x1024x64 .f32) (main_arg2 : FVec F S1024x1024 .f32) (main_arg3 : FVec F S512x64 .f32) (main_arg4 : FVec F S64 .f32) (main_arg5 : FVec F S512x1 .f32) (main_arg6 : FVec F S1 .f32) (main_arg7 : FVec F S512x64 .f32) (main_arg8 : FVec F S64 .f32) (main_arg9 : FVec F S512x64 .f32) (main_arg10 : FVec F S64 .f32) (main_arg11 : FVec F S512x1 .f32) (main_arg12 : FVec F S1 .f32) (main_arg13 : FVec F S512x1 .f32) (main_arg14 : FVec F S1 .f32) : IVec S1024x1024 1 :=
  let main_cst : FVec F S_ .f32 := constant S_ .f32 0x00000000#32
  let main_v0 : FVec F S1024x1024 .f32 := broadcastInDim S1024x1024 ![] bcast_S_S1024x1024 main_cst
  let main_v1 : IVec S1024x1024 1 := cmpf .oge main_arg2 main_v0
  main_v1
-- ==== Kernel.lean ====
abbrev S1024x512 : Shape := ⟨2, ![1024, 512]⟩
abbrev S1024x1024x64 : Shape := ⟨3, ![1024, 1024, 64]⟩
abbrev S1024x1024 : Shape := ⟨2, ![1024, 1024]⟩
abbrev S512x64 : Shape := ⟨2, ![512, 64]⟩
abbrev S64 : Shape := ⟨1, ![64]⟩
abbrev S512x1 : Shape := ⟨2, ![512, 1]⟩
abbrev S1 : Shape := ⟨1, ![1]⟩
abbrev S512x195 : Shape := ⟨2, ![512, 195]⟩
abbrev S195 : Shape := ⟨1, ![195]⟩
abbrev S1x195 : Shape := ⟨2, ![1, 195]⟩
abbrev S513x195 : Shape := ⟨2, ![513, 195]⟩
abbrev S_ : Shape := ⟨0, ![]⟩
abbrev S520x256 : Shape := ⟨2, ![520, 256]⟩
abbrev S1024x1 : Shape := ⟨2, ![1024, 1]⟩
abbrev S1024x513 : Shape := ⟨2, ![1024, 513]⟩
abbrev S1024x520 : Shape := ⟨2, ![1024, 520]⟩
abbrev S1024x1024x1 : Shape := ⟨3, ![1024, 1024, 1]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1024x64 : Shape := ⟨2, ![1024, 64]⟩
abbrev S8x520 : Shape := ⟨2, ![8, 520]⟩
abbrev S8x1024x64 : Shape := ⟨3, ![8, 1024, 64]⟩
abbrev S8x1024 : Shape := ⟨2, ![8, 1024]⟩
abbrev S8x1024x1 : Shape := ⟨3, ![8, 1024, 1]⟩
abbrev S8x64 : Shape := ⟨2, ![8, 64]⟩
abbrev S8x256 : Shape := ⟨2, ![8, 256]⟩
abbrev S8x1 : Shape := ⟨2, ![8, 1]⟩
abbrev S8x1x64 : Shape := ⟨3, ![8, 1, 64]⟩
abbrev S8 : Shape := ⟨1, ![8]⟩
abbrev S8x128x1 : Shape := ⟨3, ![8, 128, 1]⟩
abbrev S8x128 : Shape := ⟨2, ![8, 128]⟩
abbrev S8x1x128 : Shape := ⟨3, ![8, 1, 128]⟩
abbrev S8x128x128 : Shape := ⟨3, ![8, 128, 128]⟩
abbrev S1x128x128 : Shape := ⟨3, ![1, 128, 128]⟩

abbrev nBuf : Space → Nat
  | .hbm => 40
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x1024x64, .f32⟩
  | .hbm, ⟨2, _⟩ => ⟨S1024x1024, .f32⟩
  | .hbm, ⟨3, _⟩ => ⟨S512x64, .f32⟩
  | .hbm, ⟨4, _⟩ => ⟨S64, .f32⟩
  | .hbm, ⟨5, _⟩ => ⟨S512x1, .f32⟩
  | .hbm, ⟨6, _⟩ => ⟨S1, .f32⟩
  | .hbm, ⟨7, _⟩ => ⟨S512x64, .f32⟩
  | .hbm, ⟨8, _⟩ => ⟨S64, .f32⟩
  | .hbm, ⟨9, _⟩ => ⟨S512x64, .f32⟩
  | .hbm, ⟨10, _⟩ => ⟨S64, .f32⟩
  | .hbm, ⟨11, _⟩ => ⟨S512x1, .f32⟩
  | .hbm, ⟨12, _⟩ => ⟨S1, .f32⟩
  | .hbm, ⟨13, _⟩ => ⟨S512x1, .f32⟩
  | .hbm, ⟨14, _⟩ => ⟨S1, .f32⟩
  | .hbm, ⟨15, _⟩ => ⟨S512x195, .f32⟩
  | .hbm, ⟨16, _⟩ => ⟨S195, .f32⟩
  | .hbm, ⟨17, _⟩ => ⟨S1x195, .f32⟩
  | .hbm, ⟨18, _⟩ => ⟨S513x195, .f32⟩
  | .hbm, ⟨19, _⟩ => ⟨S_, .i32⟩
  | .hbm, ⟨20, _⟩ => ⟨S_, .f32⟩
  | .hbm, ⟨21, _⟩ => ⟨S520x256, .f32⟩
  | .hbm, ⟨22, _⟩ => ⟨S_, .f32⟩
  | .hbm, ⟨23, _⟩ => ⟨S1024x1, .f32⟩
  | .hbm, ⟨24, _⟩ => ⟨S1024x513, .f32⟩
  | .hbm, ⟨25, _⟩ => ⟨S_, .i32⟩
  | .hbm, ⟨26, _⟩ => ⟨S_, .f32⟩
  | .hbm, ⟨27, _⟩ => ⟨S1024x520, .f32⟩
  | .hbm, ⟨28, _⟩ => ⟨S1024x1024x1, .f32⟩
  | .hbm, ⟨29, _⟩ => ⟨S128, .i32⟩
  | .hbm, ⟨30, _⟩ => ⟨S1x128, .i32⟩
  | .hbm, ⟨31, _⟩ => ⟨S128x1, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S128x128, .f32⟩
  | .hbm, ⟨36, _⟩ => ⟨S1024x1024, .f32⟩
  | .hbm, ⟨37, _⟩ => ⟨S1024x64, .f32⟩
  | .hbm, ⟨38, _⟩ => ⟨S1024x64, .f32⟩
  | .hbm, ⟨39, _⟩ => ⟨S1024x1024, .f32⟩
  | .local _ .vmem, ⟨0, _⟩ => ⟨S8x520, .f32⟩
  | .local _ .vmem, ⟨1, _⟩ => ⟨S8x520, .f32⟩
  | .local _ .vmem, ⟨2, _⟩ => ⟨S8x1024x64, .f32⟩
  | .local _ .vmem, ⟨3, _⟩ => ⟨S8x1024x64, .f32⟩
  | .local _ .vmem, ⟨4, _⟩ => ⟨S8x1024, .f32⟩
  | .local _ .vmem, ⟨5, _⟩ => ⟨S8x1024, .f32⟩
  | .local _ .vmem, ⟨6, _⟩ => ⟨S8x1024x1, .f32⟩
  | .local _ .vmem, ⟨7, _⟩ => ⟨S8x1024x1, .f32⟩
  | .local _ .vmem, ⟨8, _⟩ => ⟨S520x256, .f32⟩
  | .local _ .vmem, ⟨9, _⟩ => ⟨S128x128, .f32⟩
  | .local _ .vmem, ⟨10, _⟩ => ⟨S8x1024, .f32⟩
  | .local _ .vmem, ⟨11, _⟩ => ⟨S8x1024, .f32⟩
  | .local _ .vmem, ⟨12, _⟩ => ⟨S8x64, .f32⟩
  | .local _ .vmem, ⟨13, _⟩ => ⟨S8x64, .f32⟩
  | .local _ .vmem, ⟨14, _⟩ => ⟨S8x64, .f32⟩
  | .local _ .vmem, ⟨15, _⟩ => ⟨S8x64, .f32⟩
  | .local _ .vmem, ⟨16, _⟩ => ⟨S8x1024, .f32⟩
  | .local _ .vmem, ⟨17, _⟩ => ⟨S8x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_call1_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x520 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S520x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1024x512 : Shape := ⟨2, ![1024, 512]⟩
abbrev S1024x1024x64 : Shape := ⟨3, ![1024, 1024, 64]⟩
abbrev S1024x1024 : Shape := ⟨2, ![1024, 1024]⟩
abbrev S512x64 : Shape := ⟨2, ![512, 64]⟩
abbrev S64 : Shape := ⟨1, ![64]⟩
abbrev S512x1 : Shape := ⟨2, ![512, 1]⟩
abbrev S1 : Shape := ⟨1, ![1]⟩
abbrev S1024x64 : Shape := ⟨2, ![1024, 64]⟩
abbrev S1x64 : Shape := ⟨2, ![1, 64]⟩
abbrev S1024x1 : Shape := ⟨2, ![1024, 1]⟩
abbrev S1x1 : Shape := ⟨2, ![1, 1]⟩
abbrev S_ : Shape := ⟨0, ![]⟩
abbrev S1024x1x64 : Shape := ⟨3, ![1024, 1, 64]⟩
abbrev S1024 : Shape := ⟨1, ![1024]⟩
abbrev S1024x1024x1 : Shape := ⟨3, ![1024, 1024, 1]⟩
abbrev S1x1x1 : Shape := ⟨3, ![1, 1, 1]⟩
abbrev S1024x1023 : Shape := ⟨2, ![1024, 1023]⟩
abbrev S1024x2 : Shape := ⟨2, ![1024, 2]⟩
abbrev S1024x1022 : Shape := ⟨2, ![1024, 1022]⟩
abbrev S1024x4 : Shape := ⟨2, ![1024, 4]⟩
abbrev S1024x1020 : Shape := ⟨2, ![1024, 1020]⟩
abbrev S1024x8 : Shape := ⟨2, ![1024, 8]⟩
abbrev S1024x1016 : Shape := ⟨2, ![1024, 1016]⟩
abbrev S1024x16 : Shape := ⟨2, ![1024, 16]⟩
abbrev S1024x1008 : Shape := ⟨2, ![1024, 1008]⟩
abbrev S1024x32 : Shape := ⟨2, ![1024, 32]⟩
abbrev S1024x992 : Shape := ⟨2, ![1024, 992]⟩
abbrev S1024x960 : Shape := ⟨2, ![1024, 960]⟩
abbrev S1024x128 : Shape := ⟨2, ![1024, 128]⟩
abbrev S1024x896 : Shape := ⟨2, ![1024, 896]⟩
abbrev S1024x256 : Shape := ⟨2, ![1024, 256]⟩
abbrev S1024x768 : Shape := ⟨2, ![1024, 768]⟩
abbrev S1024x1024x2 : Shape := ⟨3, ![1024, 1024, 2]⟩

abbrev nBuf : Space → Nat
  | .hbm => 250
  | .vmem => 0
  | .smem => 0
  | _ => 0

abbrev hbmTy0_0 (i : Nat) : BufTy := match i % 128 with
  | 0 => ⟨S1024x512, .f32⟩
  | 1 => ⟨S1024x1024x64, .f32⟩
  | 2 => ⟨S1024x1024, .f32⟩
  | 3 => ⟨S512x64, .f32⟩
  | 4 => ⟨S64, .f32⟩
  | 5 => ⟨S512x1, .f32⟩
  | 6 => ⟨S1, .f32⟩
  | 7 => ⟨S512x64, .f32⟩
  | 8 => ⟨S64, .f32⟩
  | 9 => ⟨S512x64, .f32⟩
  | 10 => ⟨S64, .f32⟩
  | 11 => ⟨S512x1, .f32⟩
  | 12 => ⟨S1, .f32⟩
  | 13 => ⟨S512x1, .f32⟩
  | 14 => ⟨S1, .f32⟩
  | 15 => ⟨S1024x64, .f32⟩
  | 16 => ⟨S1x64, .f32⟩
  | 17 => ⟨S1024x64, .f32⟩
  | 18 => ⟨S1024x64, .f32⟩
  | 19 => ⟨S1024x1, .f32⟩
  | 20 => ⟨S1x1, .f32⟩
  | 21 => ⟨S1024x1, .f32⟩
  | 22 => ⟨S1024x1, .f32⟩
  | 23 => ⟨S_, .f32⟩
  | 24 => ⟨S1024x1, .f32⟩
  | 25 => ⟨S1024x1, .f32⟩
  | 26 => ⟨S1024x1, .f32⟩
  | 27 => ⟨S1024x1, .f32⟩
  | 28 => ⟨S1024x1, .i1⟩
  | 29 => ⟨S1024x1, .f32⟩
  | 30 => ⟨S1024x1, .f32⟩
  | 31 => ⟨S1024x1, .f32⟩
  | 32 => ⟨S1024x1, .f32⟩
  | 33 => ⟨S1024x1, .f32⟩
  | 34 => ⟨S1024x1, .f32⟩
  | 35 => ⟨S1024x1, .f32⟩
  | 36 => ⟨S1024x1, .f32⟩
  | 37 => ⟨S1024x64, .f32⟩
  | 38 => ⟨S1x64, .f32⟩
  | 39 => ⟨S1024x64, .f32⟩
  | 40 => ⟨S1024x64, .f32⟩
  | 41 => ⟨S1024x64, .f32⟩
  | 42 => ⟨S1024x64, .f32⟩
  | 43 => ⟨S_, .f32⟩
  | 44 => ⟨S1024x64, .f32⟩
  | 45 => ⟨S1024x64, .f32⟩
  | 46 => ⟨S_, .f32⟩
  | 47 => ⟨S1024x64, .f32⟩
  | 48 => ⟨S1024x64, .f32⟩
  | 49 => ⟨S1024x64, .f32⟩
  | 50 => ⟨S1x64, .f32⟩
  | 51 => ⟨S1024x64, .f32⟩
  | 52 => ⟨S1024x64, .f32⟩
  | 53 => ⟨S1024x1, .f32⟩
  | 54 => ⟨S1x1, .f32⟩
  | 55 => ⟨S1024x1, .f32⟩
  | 56 => ⟨S1024x1, .f32⟩
  | 57 => ⟨S1024x1, .f32⟩
  | 58 => ⟨S1024x1, .f32⟩
  | 59 => ⟨S_, .f32⟩
  | 60 => ⟨S1024x1, .f32⟩
  | 61 => ⟨S1024x1, .f32⟩
  | 62 => ⟨S_, .f32⟩
  | 63 => ⟨S1024x1, .f32⟩
  | 64 => ⟨S1024x1, .f32⟩
  | 65 => ⟨S1024x1, .f32⟩
  | 66 => ⟨S1x1, .f32⟩
  | 67 => ⟨S1024x1, .f32⟩
  | 68 => ⟨S1024x1, .f32⟩
  | 69 => ⟨S1024x1, .f32⟩
  | 70 => ⟨S1024x1, .f32⟩
  | 71 => ⟨S_, .f32⟩
  | 72 => ⟨S1024x1, .f32⟩
  | 73 => ⟨S1024x1, .f32⟩
  | 74 => ⟨S_, .f32⟩
  | 75 => ⟨S1024x1, .f32⟩
  | 76 => ⟨S1024x1, .f32⟩
  | 77 => ⟨S1024x1x64, .f32⟩
  | 78 => ⟨S1024x1024x64, .f32⟩
  | 79 => ⟨S1024x1024x64, .f32⟩
  | 80 => ⟨S_, .f32⟩
  | 81 => ⟨S1024x1024, .f32⟩
  | 82 => ⟨S1024x1x64, .f32⟩
  | 83 => ⟨S_, .f32⟩
  | 84 => ⟨S1024x1, .f32⟩
  | 85 => ⟨S1024x1, .f32⟩
  | 86 => ⟨S1024x1024x64, .f32⟩
  | 87 => ⟨S_, .f32⟩
  | 88 => ⟨S1024x1024, .f32⟩
  | 89 => ⟨S1024x1024, .f32⟩
  | 90 => ⟨S1024x1024, .f32⟩
  | 91 => ⟨S1024x1024, .f32⟩
  | 92 => ⟨S_, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S_, .f32⟩
  | 99 => ⟨S1024, .f32⟩
  | 100 => ⟨S_, .f32⟩
  | 101 => ⟨S1024, .f32⟩
  | 102 => ⟨S1024, .f32⟩
  | 103 => ⟨S1024x1, .f32⟩
  | 104 => ⟨S1024x1024, .f32⟩
  | 105 => ⟨S1024x1024, .f32⟩
  | 106 => ⟨S1024x1024, .f32⟩
  | 107 => ⟨S_, .f32⟩
  | 108 => ⟨S1024, .f32⟩
  | 109 => ⟨S1024x1, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .i32⟩
  | 116 => ⟨S1024x1024, .f32⟩
  | 117 => ⟨S1024x1024, .i32⟩
  | 118 => ⟨S_, .i32⟩
  | 119 => ⟨S1024x1024, .i32⟩
  | 120 => ⟨S1024x1024, .i1⟩
  | 121 => ⟨S_, .i32⟩
  | 122 => ⟨S1024x1024, .i32⟩
  | 123 => ⟨S1024x1024, .i32⟩
  | 124 => ⟨S1024x1024, .i32⟩
  | 125 => ⟨S1024x1024x1, .i32⟩
  | 126 => ⟨S1, .i32⟩
  | 127 => ⟨S_, .i32⟩
  | _ => ⟨S1024x512, .f32⟩

abbrev hbmTy0_1 (i : Nat) : BufTy := match i % 128 with
  | 0 => ⟨S1024x1024x1, .i32⟩
  | 1 => ⟨S1024x1024x1, .i1⟩
  | 2 => ⟨S1x1x1, .i32⟩
  | 3 => ⟨S1024x1024x1, .i32⟩
  | 4 => ⟨S1024x1024x1, .i1⟩
  | 5 => ⟨S1024x1024x1, .i1⟩
  | 6 => ⟨S_, .i1⟩
  | 7 => ⟨S1024x1024, .i1⟩
  | 8 => ⟨S1024x1024, .f32⟩
  | 9 => ⟨S_, .f32⟩
  | 10 => ⟨S1024x1024, .f32⟩
  | 11 => ⟨S1024x1024, .f32⟩
  | 12 => ⟨S_, .f32⟩
  | 13 => ⟨S1024x1, .f32⟩
  | 14 => ⟨S1024x1023, .f32⟩
  | 15 => ⟨S1024x1024, .f32⟩
  | 16 => ⟨S1024x1024, .f32⟩
  | 17 => ⟨S_, .f32⟩
  | 18 => ⟨S1024x2, .f32⟩
  | 19 => ⟨S1024x1022, .f32⟩
  | 20 => ⟨S1024x1024, .f32⟩
  | 21 => ⟨S1024x1024, .f32⟩
  | 22 => ⟨S_, .f32⟩
  | 23 => ⟨S1024x4, .f32⟩
  | 24 => ⟨S1024x1020, .f32⟩
  | 25 => ⟨S1024x1024, .f32⟩
  | 26 => ⟨S1024x1024, .f32⟩
  | 27 => ⟨S_, .f32⟩
  | 28 => ⟨S1024x8, .f32⟩
  | 29 => ⟨S1024x1016, .f32⟩
  | 30 => ⟨S1024x1024, .f32⟩
  | 31 => ⟨S1024x1024, .f32⟩
  | 32 => ⟨S_, .f32⟩
  | 33 => ⟨S1024x16, .f32⟩
  | 34 => ⟨S1024x1008, .f32⟩
  | 35 => ⟨S1024x1024, .f32⟩
  | 36 => ⟨S1024x1024, .f32⟩
  | 37 => ⟨S_, .f32⟩
  | 38 => ⟨S1024x32, .f32⟩
  | 39 => ⟨S1024x992, .f32⟩
  | 40 => ⟨S1024x1024, .f32⟩
  | 41 => ⟨S1024x1024, .f32⟩
  | 42 => ⟨S_, .f32⟩
  | 43 => ⟨S1024x64, .f32⟩
  | 44 => ⟨S1024x960, .f32⟩
  | 45 => ⟨S1024x1024, .f32⟩
  | 46 => ⟨S1024x1024, .f32⟩
  | 47 => ⟨S_, .f32⟩
  | 48 => ⟨S1024x128, .f32⟩
  | 49 => ⟨S1024x896, .f32⟩
  | 50 => ⟨S1024x1024, .f32⟩
  | 51 => ⟨S1024x1024, .f32⟩
  | 52 => ⟨S_, .f32⟩
  | 53 => ⟨S1024x256, .f32⟩
  | 54 => ⟨S1024x768, .f32⟩
  | 55 => ⟨S1024x1024, .f32⟩
  | 56 => ⟨S1024x1024, .f32⟩
  | 57 => ⟨S_, .f32⟩
  | 58 => ⟨S1024x512, .f32⟩
  | 59 => ⟨S1024x512, .f32⟩
  | 60 => ⟨S1024x1024, .f32⟩
  | 61 => ⟨S1024x1024, .f32⟩
  | 62 => ⟨S_, .f32⟩
  | 63 => ⟨S1024x1, .f32⟩
  | 64 => ⟨S1024x1023, .f32⟩
  | 65 => ⟨S1024x1024, .f32⟩
  | 66 => ⟨S_, .i32⟩
  | 67 => ⟨S1024x1024, .i32⟩
  | 68 => ⟨S1024x1024, .i1⟩
  | 69 => ⟨S_, .i32⟩
  | 70 => ⟨S1024x1024, .i32⟩
  | 71 => ⟨S1024x1024, .i32⟩
  | 72 => ⟨S1024x1024, .i32⟩
  | 73 => ⟨S1024x1024x1, .i32⟩
  | 74 => ⟨S1, .i32⟩
  | 75 => ⟨S_, .i32⟩
  | 76 => ⟨S1024x1024x1, .i32⟩
  | 77 => ⟨S1024x1024x1, .i1⟩
  | 78 => ⟨S1x1x1, .i32⟩
  | 79 => ⟨S1024x1024x1, .i32⟩
  | 80 => ⟨S1024x1024x1, .i1⟩
  | 81 => ⟨S1024x1024x1, .i1⟩
  | 82 => ⟨S_, .i1⟩
  | 83 => ⟨S1024x1024, .i1⟩
  | 84 => ⟨S1024x1024, .f32⟩
  | 85 => ⟨S_, .f32⟩
  | 86 => ⟨S1024x1024, .f32⟩
  | 87 => ⟨S1024x1024, .f32⟩
  | 88 => ⟨S1024x1024, .f32⟩
  | 89 => ⟨S1024, .i32⟩
  | 90 => ⟨S1024x1, .i32⟩
  | 91 => ⟨S_, .f32⟩
  | 92 => ⟨S1024x1024, .f32⟩
  | 93 => ⟨S_, .i32⟩
  | 94 => ⟨S1024x1, .i32⟩
  | 95 => ⟨S1024x1, .i1⟩
  | 96 => ⟨S_, .i32⟩
  | 97 => ⟨S1024x1, .i32⟩
  | 98 => ⟨S1024x1, .i32⟩
  | 99 => ⟨S1024x1, .i32⟩
  | 100 => ⟨S_, .i32⟩
  | 101 => ⟨S1024x1024, .i32⟩
  | 102 => ⟨S1024x1024, .i1⟩
  | 103 => ⟨S_, .i32⟩
  | 104 => ⟨S1024x1024, .i32⟩
  | 105 => ⟨S1024x1024, .i32⟩
  | 106 => ⟨S1024x1024, .i32⟩
  | 107 => ⟨S1024x1024, .i32⟩
  | 108 => ⟨S1024x1024x1, .i32⟩
  | 109 => ⟨S1024x1024x1, .i32⟩
  | 110 => ⟨S1024x1024x2, .i32⟩
  | 111 => ⟨S1024x1024, .f32⟩
  | 112 => ⟨S1024x1024, .f32⟩
  | 113 => ⟨S1024x1024, .f32⟩
  | 114 => ⟨S_, .f32⟩
  | 115 => ⟨S1024x1, .f32⟩
  | 116 => ⟨S1024x1, .f32⟩
  | 117 => ⟨S1024x1024, .f32⟩
  | 118 => ⟨S1024x1024, .f32⟩
  | 119 => ⟨S1024x1024, .f32⟩
  | 120 => ⟨S1024x1024, .f32⟩
  | 121 => ⟨S1024x1024, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_cst_0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_1 : Ref sig .tc := ⟨.hbm, 59, rfl⟩
abbrev main_v29 : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_3 : Ref sig .tc := ⟨.hbm, 71, rfl⟩
abbrev main_v39 : Ref sig .tc := ⟨.hbm, 72, rfl⟩
abbrev main_v40 : Ref sig .tc := ⟨.hbm, 73, rfl⟩
abbrev main_cst_4 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_5 : Ref sig .tc := ⟨.hbm, 80, rfl⟩
abbrev main_v46 : Ref sig .tc := ⟨.hbm, 81, rfl⟩
abbrev main_call1_v0 : Ref sig .tc := ⟨.hbm, 82, rfl⟩
abbrev main_call1_cst : Ref sig .tc := ⟨.hbm, 83, rfl⟩
abbrev main_call1_v1 : Ref sig .tc := ⟨.hbm, 84, rfl⟩
abbrev main_v47 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_6 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_7 : Ref sig .tc := ⟨.hbm, 98, rfl⟩
abbrev main_v56 : Ref sig .tc := ⟨.hbm, 99, rfl⟩
abbrev main_cst_8 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_9 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_10 : Ref sig .tc := ⟨.hbm, 112, rfl⟩
abbrev main_v67 : Ref sig .tc := ⟨.hbm, 113, rfl⟩
abbrev main_v68 : Ref sig .tc := ⟨.hbm, 114, rfl⟩
abbrev main_call3_v0 : Ref sig .tc := ⟨.hbm, 115, rfl⟩
abbrev main_call3_v1_0 : Ref sig .tc := ⟨.hbm, 116, rfl⟩
abbrev main_v69 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_cst : Ref sig .tc := ⟨.hbm, 137, rfl⟩
abbrev main_call4_v14 : Ref sig .tc := ⟨.hbm, 138, rfl⟩
abbrev main_v70 : Ref sig .tc := ⟨.hbm, 139, rfl⟩
abbrev main_cst_11 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_cst_12 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_13 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_cst_14 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_cst_15 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_16 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_17 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_18 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_cst_19 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_cst_20 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_cst_21 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_call5_c : Ref sig .tc := ⟨.hbm, 194, rfl⟩
abbrev main_call5_v0 : Ref sig .tc := ⟨.hbm, 195, rfl⟩
abbrev main_call5_v1 : Ref sig .tc := ⟨.hbm, 196, rfl⟩
abbrev main_call5_c_0 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_c_1 : Ref sig .tc := ⟨.hbm, 202, rfl⟩
abbrev main_call5_c_2 : Ref sig .tc := ⟨.hbm, 203, rfl⟩
abbrev main_call5_v6 : Ref sig .tc := ⟨.hbm, 204, rfl⟩
abbrev main_call5_v7 : Ref sig .tc := ⟨.hbm, 205, rfl⟩
abbrev main_call5_v8 : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_c_3 : Ref sig .tc := ⟨.hbm, 210, rfl⟩
abbrev main_call5_v12 : Ref sig .tc := ⟨.hbm, 211, rfl⟩
abbrev main_call5_v13 : Ref sig .tc := ⟨.hbm, 212, rfl⟩
abbrev main_call5_cst : Ref sig .tc := ⟨.hbm, 213, rfl⟩
abbrev main_call5_v14 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_cst_22 : Ref sig .tc := ⟨.hbm, 219, rfl⟩
abbrev main_v118 : Ref sig .tc := ⟨.hbm, 220, rfl⟩
abbrev main_c : Ref sig .tc := ⟨.hbm, 221, rfl⟩
abbrev main_v119 : Ref sig .tc := ⟨.hbm, 222, rfl⟩
abbrev main_v120 : Ref sig .tc := ⟨.hbm, 223, rfl⟩
abbrev main_c_23 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_c_24 : Ref sig .tc := ⟨.hbm, 228, rfl⟩
abbrev main_v124 : Ref sig .tc := ⟨.hbm, 229, rfl⟩
abbrev main_v125 : Ref sig .tc := ⟨.hbm, 230, rfl⟩
abbrev main_c_25 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_cst_26 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩

abbrev nD : Nat := 1
abbrev τ : Topo := Topo.v7x

variable {F : FTy → Type} [FloatOps F]
-- ==== Proof.Head.lean ====
/- The controller's outputs at one row of the batch, as functions of that row: a linear read-out, a gate, a strength,
   the content addressing, and the write weights which put the content weights and the allocation weights together.
   Both programs are read into these functions (RefHead.lean, KernelHead.lean). -/
module

public import Idealize.ShloMosaic.Lib.Pointwise
public import Idealize.ShloMosaic.Lib.Pointwise.Sums

@[expose] public section

noncomputable section

namespace Cert.Head

open Idealize.ShloMosaic

/-- One output of a linear layer: the row times the column of the weights, and the bias. -/
def linear (h w : Fin 512 → EReal) (b : EReal) : EReal := ∑ k, h k * w k + b

/-- The logistic gate. -/
def gate (z : EReal) : EReal := Ideal.div 1 (1 + Ideal.exp (-z))

/-- The strength: `log (1 + exp z)` in its stable form. -/
def strength (z : EReal) : EReal :=
  max z 0 + Ideal.log1p (Ideal.exp (-(FloatOps.absf (F := Ideal) (φ := .f32) z)))

/-- The cosine similarity of the key and one row of the memory, its denominator kept from zero. -/
def similarity (key : Fin 64 → EReal) (mem : Fin 64 → EReal) : EReal :=
  Ideal.div (∑ d, key d * mem d)
    (max (Ideal.sqrt (∑ d, key d * key d) * Ideal.sqrt (∑ d, mem d * mem d)) (Ideal.ofBits .f32 0x322BCC77#32))

/-- The greatest of the scaled similarities of a row. -/
def top (s : EReal) (sim : Fin 1024 → EReal) : EReal :=
  Finset.fold max (Ideal.ofBits .f32 0xFF800000#32) (fun j => s * sim j) Finset.univ

/-- The content weights: the softmax of the similarities scaled by the strength. -/
def content (s : EReal) (sim : Fin 1024 → EReal) (i : Fin 1024) : EReal :=
  Ideal.div (Ideal.exp (s * sim i - top s sim)) (∑ j, Ideal.exp (s * sim j - top s sim))

/-- The write weights: the two weightings mixed by the allocation gate, scaled by the write gate. -/
def write (g a alloc cont : EReal) : EReal := g * (a * alloc + (1 - a) * cont)

/-- Taking the greatest once more with the value the search starts from changes nothing. -/
theorem max_top (s : EReal) (sim : Fin 1024 → EReal) :
    max (Ideal.ofBits .f32 0xFF800000#32) (top s sim) = top s sim :=
  max_eq_right ((Finset.le_fold_max _).mpr (Or.inl le_rfl))

/-- A row of 520 products, of which the first 512 are a row times a column, the next is one times a bias and the last
    seven have zero for the row's part, sums to the linear read-out. -/
theorem linear_of_padded (x y : Fin 520 → EReal) (h w : Fin 512 → EReal) (b : EReal)
    (hx : ∀ k : Fin 512, x ⟨k, by omega⟩ = h k) (hy : ∀ k : Fin 512, y ⟨k, by omega⟩ = w k)
    (h1 : x ⟨512, by omega⟩ = 1) (hb : y ⟨512, by omega⟩ = b) (h0 : ∀ k : Fin 520, 512 < k.val → x k = 0) :
    ∑ k, x k * y k = linear h w b := by
  have e : ∑ k : Fin (512 + 8), x k * y k = _ := Fin.sum_univ_add (fun k : Fin (512 + 8) => x k * y k)
  have e2 : ∑ k : Fin (1 + 7), x (Fin.natAdd 512 k) * y (Fin.natAdd 512 k) = _ :=
    Fin.sum_univ_add (fun k : Fin (1 + 7) => x (Fin.natAdd 512 k) * y (Fin.natAdd 512 k))
  have z : ∑ k : Fin 7, x (Fin.natAdd 512 (Fin.natAdd 1 k)) * y (Fin.natAdd 512 (Fin.natAdd 1 k)) = 0 :=
    Finset.sum_eq_zero fun k _ => by
      rw [h0 (Fin.natAdd 512 (Fin.natAdd 1 k)) (by simp only [Fin.val_natAdd]; omega), zero_mul]
  have o : ∑ k : Fin 1, x (Fin.natAdd 512 (Fin.castAdd 7 k)) * y (Fin.natAdd 512 (Fin.castAdd 7 k)) = b := by
    rw [Fin.sum_univ_one]
    show x ⟨512, _⟩ * y ⟨512, _⟩ = b
    rw [h1, hb, one_mul]
  refine e.trans ?_
  refine congrArg₂ (· + ·) (Finset.sum_congr rfl fun k _ => ?_) (e2.trans ?_)
  · exact congrArg₂ (· * ·) (hx k) (hy k)
  · rw [z, o, add_zero]

end Cert.Head

end
-- ==== Proof.Usage.lean ====
/- The mathematics of the allocation weights, with no program in sight. A row of usages `u` is put in order: row `j` stands
   before row `i` when `u j < u i`, or the two are equal and `j < i`. The weight of row `i` is `(1 - u i)` times the product of
   the usages that stand before it. The kernel takes that product as the exponential of a sum of logarithms (`exp_sum_log`);
   the reference sorts the row (`sortedFrom_before`), takes the running product of the sorted row by doubling (`Window`), and
   puts the products back (`prod_sorted`). -/
module

public import Idealize.ShloMosaic.PureOps.Ideal.Laws
public import Idealize.ShloMosaic.Lib.SortFacts
public import Idealize.ShloMosaic.Lib.Pointwise.Sums
public import Mathlib.Algebra.BigOperators.Group.Finset.Basic

@[expose] public section

noncomputable section

namespace Cert.Alloc

open Idealize.ShloMosaic

/-! ## Exponentials of sums of logarithms over the extended reals -/

/-- The exponential of a sum is the product of the exponentials, at the infinities too: minus infinity absorbs a sum as zero
    absorbs a product. -/
theorem exp_add (a b : EReal) : Ideal.exp (a + b) = Ideal.exp a * Ideal.exp b := by
  induction a with
  | bot => rw [EReal.bot_add]; show (0 : EReal) = 0 * _; rw [zero_mul]
  | top =>
    induction b with
    | bot => rw [EReal.add_bot]; show (0 : EReal) = _ * 0; rw [mul_zero]
    | top => show (⊤ : EReal) = ⊤ * ⊤; rw [EReal.top_mul_top]
    | coe b =>
      rw [EReal.top_add_coe]
      show (⊤ : EReal) = ⊤ * ((Real.exp b : ℝ) : EReal)
      rw [EReal.top_mul_coe_of_pos (Real.exp_pos b)]
  | coe a =>
    induction b with
    | bot => rw [EReal.add_bot]; show (0 : EReal) = _ * 0; rw [mul_zero]
    | top =>
      rw [EReal.coe_add_top]
      show (⊤ : EReal) = ((Real.exp a : ℝ) : EReal) * ⊤
      rw [EReal.coe_mul_top_of_pos (Real.exp_pos a)]
    | coe b =>
      rw [← EReal.coe_add]
      show ((Real.exp (a + b) : ℝ) : EReal) = ((Real.exp a : ℝ) : EReal) * ((Real.exp b : ℝ) : EReal)
      rw [Real.exp_add, EReal.coe_mul]

/-- The exponential of zero is one. -/
theorem exp_zero : Ideal.exp 0 = 1 := by
  show ((Real.exp 0 : ℝ) : EReal) = 1
  rw [Real.exp_zero, EReal.coe_one]

/-- The exponential of the logarithm of a number that is not negative is that number: zero and infinity included. -/
theorem exp_log {x : EReal} (h : 0 ≤ x) : Ideal.exp (Ideal.log x) = x := by
  induction x with
  | bot => exact absurd h (by simp)
  | top => rfl
  | coe r =>
    have hr : 0 ≤ r := by exact_mod_cast h
    show Ideal.exp (if r ≤ 0 then ⊥ else ((Real.log r : ℝ) : EReal)) = r
    by_cases h0 : r ≤ 0
    · rw [if_pos h0, le_antisymm h0 hr]; rfl
    · rw [if_neg h0]
      show ((Real.exp (Real.log r) : ℝ) : EReal) = r
      rw [Real.exp_log (lt_of_not_ge h0)]

/-- The exponential of a finite sum is the product of the exponentials. -/
theorem exp_sum {ι : Type} (s : Finset ι) (f : ι → EReal) : Ideal.exp (∑ j ∈ s, f j) = ∏ j ∈ s, Ideal.exp (f j) := by
  classical
  induction s using Finset.induction_on with
  | empty => rw [Finset.sum_empty, Finset.prod_empty, exp_zero]
  | insert a s ha ih => rw [Finset.sum_insert ha, Finset.prod_insert ha, exp_add, ih]

/-! ## The order of the rows -/

/-- Row `j` stands before row `i`: a smaller usage, or an equal one at a lower position. -/
def before {n : Nat} (u : Fin n → EReal) (j i : Fin n) : Prop := u j < u i ∨ (u j = u i ∧ j < i)

open Classical in
/-- The product of the usages that stand before row `i`. -/
def prodBefore {n : Nat} (u : Fin n → EReal) (i : Fin n) : EReal := ∏ j, if before u j i then u j else 1

open Classical in
/-- The sum of the logarithms of the usages that stand before row `i`. -/
def logBefore {n : Nat} (u : Fin n → EReal) (i : Fin n) : EReal := ∑ j, if before u j i then Ideal.log (u j) else 0

/-- The allocation weight of row `i`. -/
def weight {n : Nat} (u : Fin n → EReal) (i : Fin n) : EReal := (1 - u i) * prodBefore u i

/-- The exponential of the sum of the logarithms is the product, for usages that are not negative. -/
theorem exp_logBefore {n : Nat} (u : Fin n → EReal) (hu : ∀ j, 0 ≤ u j) (i : Fin n) :
    Ideal.exp (logBefore u i) = prodBefore u i := by
  unfold logBefore prodBefore
  rw [exp_sum]
  refine Finset.prod_congr rfl fun j _ => ?_
  by_cases h : before u j i
  · rw [if_pos h, if_pos h, exp_log (hu j)]
  · rw [if_neg h, if_neg h, exp_zero]

theorem before_irrefl {n : Nat} (u : Fin n → EReal) (i : Fin n) : ¬ before u i i := by
  rintro (h | ⟨_, h⟩) <;> exact lt_irrefl _ h

theorem before_trans {n : Nat} {u : Fin n → EReal} {a b c : Fin n} (h : before u a b) (h' : before u b c) : before u a c := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- Two different rows: one of them stands before the other. -/
theorem before_total {n : Nat} (u : Fin n → EReal) {a b : Fin n} (h : a ≠ b) : before u a b ∨ before u b a := by
  rcases lt_trichotomy (u a) (u b) with g | g | g
  · exact Or.inl (Or.inl g)
  · rcases lt_or_gt_of_ne h with k | k
    · exact Or.inl (Or.inr ⟨g, k⟩)
    · exact Or.inr (Or.inr ⟨g.symm, k⟩)
  · exact Or.inr (Or.inl g)

/-! ## The stable sort -/

open Classical in
/-- On an ascending list the stable sort by the usages alone and the stable sort by the order of the rows are the same: an
    entry is inserted only among entries of higher positions. -/
theorem stableSort_eq {n : Nat} (u : Fin n → EReal) (l : List (Fin n)) (hl : l.Pairwise (· < ·)) :
    stableSort (fun a b => decide (u a < u b)) l = stableSort (fun a b => decide (before u a b)) l := by
  induction l with
  | nil => rfl
  | cons a l ih =>
    obtain ⟨ha, hl'⟩ := List.pairwise_cons.mp hl
    unfold stableSort
    rw [ih hl']
    refine insertBefore_congr _ _ a _ fun b hb => decide_eq_decide.mpr ?_
    have hab : a < b := ha b ((perm_stableSort _ l).mem_iff.mp hb)
    exact ⟨Or.inl, fun h => h.resolve_right fun g => lt_asymm hab g.2⟩

open Classical in
/-- The stable sort of a row of usages puts the rows in their order. -/
theorem sortedFrom_before {n : Nat} (u : Fin n → EReal) {i j : Fin n} (h : i < j) :
    before u (sortedFrom (fun a b => decide (u a < u b)) i) (sortedFrom (fun a b => decide (u a < u b)) j) := by
  have e : sortedFrom (fun a b => decide (u a < u b)) = sortedFrom (fun a b => decide (before u a b)) := by
    funext k
    have e' : sortPositions n (fun a b => decide (u a < u b)) = sortPositions n (fun a b => decide (before u a b)) :=
      stableSort_eq u _ (List.pairwise_lt_finRange n)
    unfold sortedFrom
    simp only [e', List.get_eq_getElem, Fin.val_cast]
  rw [e]
  have hn := sortedFrom_noInversion (fun a b => decide (before u a b)) (fun a b => decide (before u a b))
    (fun a b g => decide_eq_false fun g' => before_irrefl u a (before_trans (of_decide_eq_true g) g')) (fun _ _ g => g)
    (fun a b c g g' => decide_eq_false fun g'' => by
      have g := of_decide_eq_false g
      have g' := of_decide_eq_false g'
      by_cases e1 : a = b
      · subst e1; exact g' g''
      · exact g' (before_trans ((before_total u e1).resolve_left g) g'')) i j h
  exact (before_total u fun q => h.ne (sortedFrom_injective _ q)).resolve_right (of_decide_eq_false hn)

/-- If `σ` puts the rows in their order, the product of the sorted row below position `k` is the product of the usages that
    stand before row `σ k`. -/
theorem prod_sorted {n : Nat} (u : Fin n → EReal) (σ : Fin n → Fin n) (hσ : Function.Bijective σ)
    (hb : ∀ i j, i < j → before u (σ i) (σ j)) (k : Fin n) :
    (∏ l, if l < k then u (σ l) else 1) = prodBefore u (σ k) := by
  classical
  unfold prodBefore
  refine (Fintype.prod_bijective σ hσ _ _ fun l => ?_)
  by_cases h : l < k
  · rw [if_pos h, if_pos (hb l k h)]
  · rw [if_neg h, if_neg]
    intro g
    rcases eq_or_lt_of_le (not_lt.mp h) with e | e
    · subst e; exact before_irrefl u _ g
    · exact before_irrefl u _ (before_trans g (hb k l e))

/-! ## The running product by doubling -/

/-- Column `k` of `x` holds the product of the `s` columns of `a` that end at `k` (fewer at the left edge). -/
def Window {n : Nat} (a : Fin n → EReal) (s : Nat) (x : Fin n → EReal) : Prop :=
  ∀ k, x k = ∏ l, if l ≤ k ∧ k.val < l.val + s then a l else 1

/-- Every row is its own product over windows of one column. -/
theorem window_one {n : Nat} (a : Fin n → EReal) : Window a 1 a := by
  intro k
  rw [Finset.prod_eq_single k]
  · rw [if_pos ⟨le_refl _, by omega⟩]
  · intro l _ hl
    rw [if_neg]
    rintro ⟨h1, h2⟩
    exact hl (le_antisymm h1 (by rw [Fin.le_def]; omega))
  · intro h; exact absurd (Finset.mem_univ k) h

/-- One pass: a window and the window that ends `s` columns earlier make a window of twice the width. -/
theorem window_double {n : Nat} {a x y : Fin n → EReal} {s : Nat} (hx : Window a s x)
    (hy : ∀ k : Fin n, y k = x k * if k.val < s then 1 else x ⟨k.val - s, by omega⟩) : Window a (s + s) y := by
  intro k
  rw [hy k, hx k]
  by_cases h : k.val < s
  · rw [if_pos h, mul_one]
    refine Finset.prod_congr rfl fun l _ => if_congr ?_ rfl rfl
    exact and_congr_right fun _ => ⟨fun _ => by omega, fun _ => by omega⟩
  · rw [if_neg h, hx, ← Finset.prod_mul_distrib]
    refine Finset.prod_congr rfl fun l _ => ?_
    simp only [Fin.le_def]
    by_cases h1 : l.val ≤ k.val ∧ k.val < l.val + s
    · rw [if_pos h1, if_neg (by omega), if_pos (by omega), mul_one]
    · rw [if_neg h1, one_mul]
      refine if_congr ?_ rfl rfl
      omega

/-- A window at least as wide as the row holds the running product. -/
theorem window_full {n : Nat} {a x : Fin n → EReal} {s : Nat} (hx : Window a s x) (hs : n ≤ s) (k : Fin n) :
    x k = ∏ l, if l ≤ k then a l else 1 := by
  rw [hx k]
  exact Finset.prod_congr rfl fun l _ => if_congr (and_iff_left (by omega)) rfl rfl

/-! ## The sum of logarithms, chunk by chunk -/

/-- How many of the logarithms `l` a chunk adds for equal usages: the sum of `l` over the places marked `p` is `l` times their
    number, and zero when there are none. -/
theorem ties_eq {n : Nat} (p : Fin n → Prop) [DecidablePred p] (l : EReal) :
    (if 0 < ∑ k, (if p k then (1 : EReal) else 0) then l * ∑ k, (if p k then (1 : EReal) else 0) else 0)
      = ∑ k, if p k then l else 0 := by
  classical
  rw [← Finset.sum_filter, ← Finset.sum_filter, Finset.sum_const, Finset.sum_const]
  generalize (Finset.univ.filter p).card = c
  have nonneg (c : Nat) : (0 : EReal) ≤ c • 1 := by
    rw [nsmul_one]; exact_mod_cast Nat.zero_le c
  have times (c : Nat) : l * (c • (1 : EReal)) = c • l := by
    induction c with
    | zero => rw [zero_nsmul, zero_nsmul, mul_zero]
    | succ c ih =>
      rw [succ_nsmul, succ_nsmul, EReal.left_distrib_of_nonneg (nonneg c) zero_le_one, ih, mul_one]
  rw [times]
  by_cases h : 0 < c • (1 : EReal)
  · rw [if_pos h]
  · rw [if_neg h]
    cases c with
    | zero => rw [zero_nsmul]
    | succ c =>
      refine absurd ?_ h
      rw [nsmul_one]
      exact_mod_cast Nat.succ_pos c

/-- The row number at place `k` of chunk `c`. -/
def place (c : Fin 8) (k : Fin 128) : Fin 1024 := ⟨c.val * 128 + k.val, by omega⟩

/-- The sum of logarithms of a row in chunk `c`, over the chunks `d`: in a chunk before its own the usages that are at most its
    own stand before it, in its own chunk and after it those that are less; and in its own chunk the equal ones at earlier
    places. -/
theorem logBefore_chunks (u : Fin 1024 → EReal) (c : Fin 8) (i : Fin 128) (tie : EReal)
    (htie : tie = ∑ k : Fin 128, if u (place c k) = u (place c i) ∧ k < i then Ideal.log (u (place c i)) else 0) :
    logBefore u (place c i) = (∑ d : Fin 8, ∑ k : Fin 128,
      if (if d < c then u (place d k) ≤ u (place c i) else u (place d k) < u (place c i)) then Ideal.log (u (place d k)) else 0)
        + tie := by
  classical
  have hsplit : tie = ∑ d : Fin 8, if d = c then tie else 0 := by simp
  rw [hsplit, ← Finset.sum_add_distrib]
  unfold logBefore
  rw [Fin.sum_univ_tiles 8 128 rfl]
  refine Finset.sum_congr rfl fun d _ => ?_
  have hp (k : Fin 128) (h) : (⟨d.val * 128 + k.val, h⟩ : Fin 1024) = place d k := rfl
  simp only [hp]
  have hlt (k : Fin 128) : place d k < place c i ↔ d < c ∨ (d = c ∧ k < i) := by
    simp only [Fin.lt_def, Fin.ext_iff, place]; omega
  rcases lt_trichotomy d c with h | h | h
  · rw [if_neg (ne_of_lt h), add_zero]
    refine Finset.sum_congr rfl fun k _ => if_congr ?_ rfl rfl
    rw [if_pos h, before, hlt]
    simp only [h, true_or, and_true]
    exact le_iff_lt_or_eq.symm
  · subst h
    rw [if_pos rfl, htie, ← Finset.sum_add_distrib]
    refine Finset.sum_congr rfl fun k _ => ?_
    simp only [before, hlt, lt_irrefl, true_and, false_or, if_false]
    by_cases h1 : u (place d k) < u (place d i)
    · rw [if_pos (Or.inl h1), if_pos h1, if_neg (fun h => absurd h.1 (ne_of_lt h1)), add_zero]
    · rw [if_neg h1, zero_add]
      by_cases h2 : u (place d k) = u (place d i) ∧ k < i
      · rw [if_pos (Or.inr h2), if_pos h2, h2.1]
      · rw [if_neg (fun h => h.elim h1 h2), if_neg h2]
  · rw [if_neg (ne_of_gt h), add_zero]
    refine Finset.sum_congr rfl fun k _ => if_congr ?_ rfl rfl
    rw [if_neg (not_lt_of_gt h), before, hlt]
    simp only [not_lt_of_gt h, ne_of_gt h, false_and, or_false, and_false]

end Cert.Alloc

end
-- ==== Proof.KernelAlloc.lean ====
/- The kernel's allocation weights, read at an index. The kernel cuts the 1024 usages of a row into eight chunks of 128 and adds,
   chunk against chunk, the logarithms of the usages that stand before each one. The payloads of one chunk are one chain of
   eight masked sums (`chunk`), and the chain at an index is `Cert.Alloc.logBefore`. -/
module

public import proofs.«01_k».proof.Proof.Gen.KernelIdeal.Frame
public import proofs.«01_k».proof.Proof.Usage
public import Idealize.ShloMosaic.Lib.Pointwise

@[expose] public section

set_option maxRecDepth 16384

noncomputable section

namespace Cert.KernelAlloc

open Idealize.ShloMosaic Idealize.ShloMosaic.TcCoe Idealize.SL.Sem
open Cert.KernelIdeal Cert.KernelIdeal.Gen

local notation "V2" => FVec Ideal S8x1024 FTy.f32
local notation "V3" => FVec Ideal S8x1024x1 FTy.f32
local notation "Acc" => FVec Ideal S8x128 FTy.f32

/-- Chunk `c` of 128 columns lies within the 1024. -/
theorem cut2 (c : Fin 8) : S8x1024.Slices ![0, 128 * c.val] S8x128 := by
  fin_cases c <;> decide

/-- Chunk `c` of 128 rows lies within the 1024. -/
theorem cut3 (c : Fin 8) : S8x1024x1.Slices ![0, 128 * c.val, 0] S8x128x1 := by
  fin_cases c <;> decide

/-- The logarithms `lu` of the usages of chunk `d` that compare `p` with the usage of each place of chunk `c`, added up. -/
def masked (p : CmpFPredicate) (u lu : V2) (u3 : V3) (c d : Fin 8) : Acc :=
  multiReduction .add [2] S8x128
    (select
      (cmpf p
        (broadcastTo S8x128x128 (shapeCast S8x1x128 (extractStridedSlice S8x128 ![0, 128 * d.val] u (cut2 d)) shapeCasts_S8x128_S8x1x128)
          broadcasts_S8x1x128_S8x128x128)
        (broadcastTo S8x128x128 (extractStridedSlice S8x128x1 ![0, 128 * c.val, 0] u3 (cut3 c)) broadcasts_S8x128x1_S8x128x128))
      (broadcastTo S8x128x128 (shapeCast S8x1x128
        (shapeCast S8x1x128 (extractStridedSlice S8x128 ![0, 128 * d.val] lu (cut2 d)) shapeCasts_S8x128_S8x1x128)
          shapeCasts_S8x1x128_S8x1x128) broadcasts_S8x1x128_S8x128x128)
      (broadcast S8x128x128 (Scalar.ofBits .f32 0x00000000#32)))
    0x00000000#32 reduces_S8x128x128_S8x128 (.inl rfl) rfl

/-- How many usages of chunk `c` equal each one at an earlier place of the chunk. -/
def count (u : V2) (u3 : V3) (jl : FVec Ideal S128x128 FTy.f32) (c : Fin 8) : Acc :=
  multiReduction .add [2] S8x128
    (mulf
      (select
        (cmpf .oeq
          (broadcastTo S8x128x128 (shapeCast S8x1x128 (extractStridedSlice S8x128 ![0, 128 * c.val] u (cut2 c)) shapeCasts_S8x128_S8x1x128)
            broadcasts_S8x1x128_S8x128x128)
          (broadcastTo S8x128x128 (extractStridedSlice S8x128x1 ![0, 128 * c.val, 0] u3 (cut3 c)) broadcasts_S8x128x1_S8x128x128))
        (broadcast S8x128x128 (Scalar.ofBits .f32 0x3F800000#32))
        (broadcast S8x128x128 (Scalar.ofBits .f32 0x00000000#32)))
      (broadcastTo S8x128x128 (shapeCast S1x128x128 jl shapeCasts_S128x128_S1x128x128) broadcasts_S1x128x128_S8x128x128))
    0x00000000#32 reduces_S8x128x128_S8x128 (.inl rfl) rfl

/-- The logarithm of each usage of chunk `c`, once for every equal usage at an earlier place. -/
def ties (u lu : V2) (u3 : V3) (jl : FVec Ideal S128x128 FTy.f32) (c : Fin 8) : Acc :=
  select (cmpf .ogt (count u u3 jl c) (broadcast S8x128 (Scalar.ofBits .f32 0x00000000#32)))
    (mulf (extractStridedSlice S8x128 ![0, 128 * c.val] lu (cut2 c)) (count u u3 jl c))
    (broadcast S8x128 (Scalar.ofBits .f32 0x00000000#32))

/-- What chunk `c` adds to `s` at chunk `d`. -/
def step (u lu : V2) (u3 : V3) (jl : FVec Ideal S128x128 FTy.f32) (c : Fin 8) (s : Acc) (d : Fin 8) : Acc :=
  if d < c then addf s (masked .ole u lu u3 c d)
  else if c < d then addf s (masked .olt u lu u3 c d)
  else addf (addf s (masked .olt u lu u3 c d)) (ties u lu u3 jl c)

/-- The sums of chunk `c`, over the eight chunks in turn. -/
def chunk (u lu : V2) (u3 : V3) (jl : FVec Ideal S128x128 FTy.f32) (c : Fin 8) : Acc :=
  List.foldl (step u lu u3 jl c) (broadcast S8x128 (Scalar.ofBits .f32 0x00000000#32)) [0, 1, 2, 3, 4, 5, 6, 7]

/-- The allocation weights of a block of usages: one minus each usage times the exponential of its chunk's sum. -/
def allocation (u lu : V2) (u3 : V3) (jl : FVec Ideal S128x128 FTy.f32) : V2 :=
  mulf (subf (broadcast S8x1024 (Scalar.ofBits .f32 0x3F800000#32)) u)
    (exp (concatenate S8x1024 1 [⟨S8x128, chunk u lu u3 jl 0⟩, ⟨S8x128, chunk u lu u3 jl 1⟩, ⟨S8x128, chunk u lu u3 jl 2⟩,
      ⟨S8x128, chunk u lu u3 jl 3⟩, ⟨S8x128, chunk u lu u3 jl 4⟩, ⟨S8x128, chunk u lu u3 jl 5⟩, ⟨S8x128, chunk u lu u3 jl 6⟩,
      ⟨S8x128, chunk u lu u3 jl 7⟩] concatenates_S8x128_S8x128_S8x128_S8x128_S8x128_S8x128_S8x128_S8x128_S8x1024_d1))

/-! ## Reading them at an index -/

/-- Place `k` of chunk `c`, with the chunk's first row written the other way round. -/
theorem place_eq (c : Fin 8) (k : Fin 128) (h : 128 * c.val + k.val < 1024) :
    (⟨128 * c.val + k.val, h⟩ : Fin 1024) = Alloc.place c k :=
  Fin.ext (congrArg (· + k.val) (Nat.mul_comm 128 c.val))

/-- A masked sum where the mask is "less than". -/
theorem masked_lt_apply (u lu : V2) (u3 : V3) (c d : Fin 8) (b : Fin 8) (i : Fin 128) :
    masked .olt u lu u3 c d (ix2 b i) = ∑ k : Fin 128,
      if u (ix2 b (Alloc.place d k)) < u3 (ix3 b (Alloc.place c i) 0) then lu (ix2 b (Alloc.place d k)) else 0 := by
  unfold masked
  pointwise
  simp only [place_eq]

/-- A masked sum where the mask is "at most". -/
theorem masked_le_apply (u lu : V2) (u3 : V3) (c d : Fin 8) (b : Fin 8) (i : Fin 128) :
    masked .ole u lu u3 c d (ix2 b i) = ∑ k : Fin 128,
      if u (ix2 b (Alloc.place d k)) ≤ u3 (ix3 b (Alloc.place c i) 0) then lu (ix2 b (Alloc.place d k)) else 0 := by
  unfold masked
  pointwise
  simp only [place_eq]

/-- The count of equal usages at earlier places. -/
theorem count_apply (u : V2) (u3 : V3) (jl : FVec Ideal S128x128 FTy.f32) (c : Fin 8) (b : Fin 8) (i : Fin 128)
    (hjl : ∀ k, jl (ix2 i k) = if k < i then 1 else 0) :
    count u u3 jl c (ix2 b i) = ∑ k : Fin 128,
      if u (ix2 b (Alloc.place c k)) = u3 (ix3 b (Alloc.place c i) 0) ∧ k < i then (1 : EReal) else 0 := by
  unfold count
  pointwise
  refine Finset.sum_congr rfl fun k _ => ?_
  rw [place_eq, place_eq, hjl]
  by_cases h1 : u (ix2 b (Alloc.place c k)) = u3 (ix3 b (Alloc.place c i) 0)
  · by_cases h2 : k < i
    · rw [if_pos h1, if_pos h2, if_pos ⟨h1, h2⟩, mul_one]
    · rw [if_neg h2, mul_zero]
      exact (if_neg (fun h => h2 h.2)).symm
  · rw [if_neg h1, zero_mul]
    exact (if_neg (fun h => h1 h.1)).symm

/-- The logarithms added for equal usages. -/
theorem ties_apply (u lu : V2) (u3 : V3) (jl : FVec Ideal S128x128 FTy.f32) (c : Fin 8) (b : Fin 8) (i : Fin 128)
    (hjl : ∀ k, jl (ix2 i k) = if k < i then 1 else 0) :
    ties u lu u3 jl c (ix2 b i) = ∑ k : Fin 128,
      if u (ix2 b (Alloc.place c k)) = u3 (ix3 b (Alloc.place c i) 0) ∧ k < i then lu (ix2 b (Alloc.place c i)) else 0 := by
  rw [← Alloc.ties_eq, ← count_apply u u3 jl c b i hjl]
  unfold ties
  pointwise
  rw [place_eq]

/-- The chain of a chunk, at an index, is a sum over the chunks. -/
theorem chain_apply (f : Acc → Fin 8 → Acc) (g : Fin 8 → EReal) (j : S8x128.Idx) (hf : ∀ s d, f s d j = s j + g d)
    (l : List (Fin 8)) : ∀ s : Acc, List.foldl f s l j = s j + (l.map g).sum := by
  induction l with
  | nil => intro s; exact (add_zero _).symm
  | cons d l ih => intro s; rw [List.foldl_cons, ih, hf, List.map_cons, List.sum_cons, add_assoc]

/-- The sum of a chunk at an index: the logarithms of the usages that stand before it. -/
theorem chunk_apply (u lu : V2) (u3 : V3) (jl : FVec Ideal S128x128 FTy.f32) (c : Fin 8) (b : Fin 8) (i : Fin 128)
    (hlu : ∀ j, lu (ix2 b j) = Ideal.log (u (ix2 b j))) (hu3 : ∀ j, u3 (ix3 b j 0) = u (ix2 b j))
    (hjl : ∀ k, jl (ix2 i k) = if k < i then 1 else 0) :
    chunk u lu u3 jl c (ix2 b i) = Alloc.logBefore (fun j => u (ix2 b j)) (Alloc.place c i) := by
  have hzero : (broadcast S8x128 (Scalar.ofBits (F := Ideal) .f32 0x00000000#32) : Acc) (ix2 b i) = 0 := by pointwise
  have hties := ties_apply u lu u3 jl c b i hjl
  simp only [hu3, hlu] at hties
  have hstep (s : Acc) (d : Fin 8) : step u lu u3 jl c s d (ix2 b i) = s (ix2 b i)
      + ((∑ k : Fin 128, if (if d < c then u (ix2 b (Alloc.place d k)) ≤ u (ix2 b (Alloc.place c i))
          else u (ix2 b (Alloc.place d k)) < u (ix2 b (Alloc.place c i))) then Ideal.log (u (ix2 b (Alloc.place d k))) else 0)
        + if d = c then ties u lu u3 jl c (ix2 b i) else 0) := by
    unfold step
    rcases lt_trichotomy d c with h | h | h
    · rw [if_pos h, if_neg (ne_of_lt h), add_zero]
      simp only [if_pos h]
      refine congrArg (s (ix2 b i) + ·) ?_
      rw [masked_le_apply]
      simp only [hu3, hlu]
    · subst h
      rw [if_neg (lt_irrefl d), if_neg (lt_irrefl d), if_pos rfl, ← add_assoc]
      simp only [lt_irrefl, if_false]
      refine congrArg (s (ix2 b i) + · + ties u lu u3 jl d (ix2 b i)) ?_
      rw [masked_lt_apply]
      simp only [hu3, hlu]
    · rw [if_neg (not_lt_of_gt h), if_pos h, if_neg (ne_of_gt h), add_zero]
      simp only [if_neg (not_lt_of_gt h)]
      refine congrArg (s (ix2 b i) + ·) ?_
      rw [masked_lt_apply]
      simp only [hu3, hlu]
  unfold chunk
  rw [chain_apply _ _ _ hstep, hzero, zero_add, Alloc.logBefore_chunks _ c i _ hties]
  have hlist (g : Fin 8 → EReal) : (([0, 1, 2, 3, 4, 5, 6, 7] : List (Fin 8)).map g).sum = ∑ d, g d := by
    rw [← List.sum_ofFn]; rfl
  rw [hlist, Finset.sum_add_distrib]
  simp only [Finset.sum_ite_eq', Finset.mem_univ, if_true]

/-- The kernel's allocation weights: one minus the usage, times the exponential of the logarithms before it. -/
theorem allocation_apply (u lu : V2) (u3 : V3) (jl : FVec Ideal S128x128 FTy.f32) (b : Fin 8) (i : Fin 1024)
    (hlu : ∀ j, lu (ix2 b j) = Ideal.log (u (ix2 b j))) (hu3 : ∀ j, u3 (ix3 b j 0) = u (ix2 b j))
    (hjl : ∀ i k, jl (ix2 i k) = if k < i then 1 else 0) (hu : ∀ j, 0 ≤ u (ix2 b j)) :
    allocation u lu u3 jl (ix2 b i) = Alloc.weight (fun j => u (ix2 b j)) i := by
  unfold allocation Alloc.weight
  rw [← Alloc.exp_logBefore _ hu]
  have hc (c : Fin 8) (k : Fin 128) := chunk_apply u lu u3 jl c b k hlu hu3 (hjl k)
  pointwise
  simp only [hc]
  have hi := i.isLt
  have hp (c : Fin 8) (k : Fin 128) (h : c.val * 128 + k.val = i.val) :
      Alloc.logBefore (fun j => u (ix2 b j)) (Alloc.place c k) = Alloc.logBefore (fun j => u (ix2 b j)) i :=
    congrArg _ (Fin.ext h)
  refine congrArg (fun t => (1 - u (ix2 b i)) * Ideal.exp t) ?_
  split_ifs <;> refine hp _ _ ?_ <;> simp <;> omega

/-! ## The payloads are the chunks -/

section Payloads

variable (x0 : Vec Ideal S8x520 .f32) (x1 : Vec Ideal S8x1024x64 .f32) (x2 : Vec Ideal S8x1024 .f32)
  (x3 : Vec Ideal S8x1024x1 .f32) (x4 : Vec Ideal S520x256 .f32) (x5 : Vec Ideal S128x128 .f32)

/-- The value the kernel stores as the allocation weights. -/
theorem payload_eq :
    k0_pay89 (View.ld x2 r0_3) (k0_pay92 x0 x1 x2 x3 x4 x5) (k0_pay93 x0 x1 x2 x3 x4 x5) (k0_pay95 x0 x1 x2 x3 x4 x5)
      (k0_pay97 x0 x1 x2 x3 x4 x5) (k0_pay99 x0 x1 x2 x3 x4 x5) (k0_pay101 x0 x1 x2 x3 x4 x5) (k0_pay103 x0 x1 x2 x3 x4 x5)
      (k0_pay105 x0 x1 x2 x3 x4 x5) (k0_pay107 x0 x1 x2 x3 x4 x5) (k0_pay108 x0 x1 x2 x3 x4 x5) (k0_pay109 x0 x1 x2 x3 x4 x5)
      (k0_pay110 x0 x1 x2 x3 x4 x5) (k0_pay111 x0 x1 x2 x3 x4 x5) (k0_pay112 x0 x1 x2 x3 x4 x5)
      = allocation (View.ld x2 r0_3) (k0_pay11 (View.ld x2 r0_3)) (k0_pay10 (View.ld x3 r0_4)) (k0_pay12 (View.ld x5 r0_5)) := by
  have h0 : k0_pay95 x0 x1 x2 x3 x4 x5 = chunk (View.ld x2 r0_3) (k0_pay11 (View.ld x2 r0_3)) (k0_pay10 (View.ld x3 r0_4))
    (k0_pay12 (View.ld x5 r0_5)) 0 := rfl
  have h1 : k0_pay97 x0 x1 x2 x3 x4 x5 = chunk (View.ld x2 r0_3) (k0_pay11 (View.ld x2 r0_3)) (k0_pay10 (View.ld x3 r0_4))
    (k0_pay12 (View.ld x5 r0_5)) 1 := rfl
  have h2 : k0_pay99 x0 x1 x2 x3 x4 x5 = chunk (View.ld x2 r0_3) (k0_pay11 (View.ld x2 r0_3)) (k0_pay10 (View.ld x3 r0_4))
    (k0_pay12 (View.ld x5 r0_5)) 2 := rfl
  have h3 : k0_pay101 x0 x1 x2 x3 x4 x5 = chunk (View.ld x2 r0_3) (k0_pay11 (View.ld x2 r0_3)) (k0_pay10 (View.ld x3 r0_4))
    (k0_pay12 (View.ld x5 r0_5)) 3 := rfl
  have h4 : k0_pay103 x0 x1 x2 x3 x4 x5 = chunk (View.ld x2 r0_3) (k0_pay11 (View.ld x2 r0_3)) (k0_pay10 (View.ld x3 r0_4))
    (k0_pay12 (View.ld x5 r0_5)) 4 := rfl
  have h5 : k0_pay105 x0 x1 x2 x3 x4 x5 = chunk (View.ld x2 r0_3) (k0_pay11 (View.ld x2 r0_3)) (k0_pay10 (View.ld x3 r0_4))
    (k0_pay12 (View.ld x5 r0_5)) 5 := rfl
  have h6 : k0_pay107 x0 x1 x2 x3 x4 x5 = chunk (View.ld x2 r0_3) (k0_pay11 (View.ld x2 r0_3)) (k0_pay10 (View.ld x3 r0_4))
    (k0_pay12 (View.ld x5 r0_5)) 6 := rfl
  rw [h0, h1, h2, h3, h4, h5, h6]
  rfl

end Payloads

end Cert.KernelAlloc

end
-- ==== Proof.KernelHead.lean ====
/- One block of the kernel's results other than the allocation, row by row, in the functions of Head.lean: from the
   block's linear read-outs `lin` (256 columns) the erase and add vectors, the strength, the gates, the similarities,
   the content weights and the write weights. -/
module

public import proofs.«01_k».proof.Proof.Head
public import proofs.«01_k».proof.Proof.KernelAlloc

@[expose] public section

set_option maxRecDepth 16384

noncomputable section

namespace Cert.KernelHead

open Idealize.ShloMosaic Idealize.ShloMosaic.TcCoe Idealize.SL.Sem
open Cert.KernelIdeal Cert.KernelIdeal.Gen

variable (x0 : FVec Ideal S8x520 .f32) (x4 : FVec Ideal S520x256 .f32) (x1 : FVec Ideal S8x1024x64 .f32)

/-- The block's linear read-outs: every row of the padded input times every column of the padded weights. -/
theorem pay2_apply (b : Fin 8) (c : Fin 256) :
    k0_pay2 (F := Ideal) x0 x4 (ix2 b c) = ∑ k, x0 (ix2 b k) * x4 (ix2 k c) := by
  unfold k0_pay2
  pointwise

/-- The add vector is columns 64 to 127. -/
theorem pay3_apply (b : Fin 8) (c : Fin 64) :
    k0_pay3 (F := Ideal) x0 x4 (ix2 b c) = k0_pay2 (F := Ideal) x0 x4 (ix2 b ⟨64 + c.val, by omega⟩) := by
  unfold k0_pay3
  generalize k0_pay2 (F := Ideal) x0 x4 = lin
  pointwise

/-- The logistic function of the device is the gate. -/
theorem logistic_eq (z : EReal) : Ideal.logistic z = Head.gate z := rfl

/-- The erase vector is the gate of columns 128 to 191. -/
theorem pay4_apply (b : Fin 8) (c : Fin 64) :
    k0_pay4 (F := Ideal) x0 x4 (ix2 b c)
      = Head.gate (k0_pay2 (F := Ideal) x0 x4 (ix2 b ⟨128 + c.val, by omega⟩)) := by
  unfold k0_pay4
  generalize k0_pay2 (F := Ideal) x0 x4 = lin
  pointwise
  rfl

/-- The strength is read from column 192. -/
theorem pay5_apply (b : Fin 8) :
    k0_pay5 (F := Ideal) x0 x4 (ix2 b 0) = Head.strength (k0_pay2 (F := Ideal) x0 x4 (ix2 b 192)) := by
  unfold k0_pay5
  generalize k0_pay2 (F := Ideal) x0 x4 = lin
  pointwise
  rw [if_neg (fun h => h rfl), zero_sub]
  rfl

/-- The write gate is read from column 193. -/
theorem pay6_apply (b : Fin 8) :
    k0_pay6 (F := Ideal) x0 x4 (ix2 b 0) = Head.gate (k0_pay2 (F := Ideal) x0 x4 (ix2 b 193)) := by
  unfold k0_pay6
  generalize k0_pay2 (F := Ideal) x0 x4 = lin
  pointwise
  rfl

/-- The allocation gate is read from column 194. -/
theorem pay7_apply (b : Fin 8) :
    k0_pay7 (F := Ideal) x0 x4 (ix2 b 0) = Head.gate (k0_pay2 (F := Ideal) x0 x4 (ix2 b 194)) := by
  unfold k0_pay7
  generalize k0_pay2 (F := Ideal) x0 x4 = lin
  pointwise
  rfl

/-- The similarities, the key being columns 0 to 63. -/
theorem pay8_apply (b : Fin 8) (i : Fin 1024) :
    k0_pay8 (F := Ideal) x0 x4 x1 (ix2 b i)
      = Head.similarity (fun d => k0_pay2 (F := Ideal) x0 x4 (ix2 b ⟨d.val, by omega⟩)) (fun d => x1 (ix3 b i d)) := by
  unfold k0_pay8
  generalize k0_pay2 (F := Ideal) x0 x4 = lin
  pointwise
  unfold Head.similarity
  rw [Finset.sum_congr rfl fun d _ => mul_comm (x1 (ix3 b i d)) (lin (ix2 b ⟨d.val, by omega⟩))]

/-- The content weights of a strength and similarities. -/
theorem pay9_apply (s : FVec Ideal S8x1 .f32) (sim : FVec Ideal S8x1024 .f32) (b : Fin 8) (i : Fin 1024) :
    k0_pay9 s sim (ix2 b i) = Head.content (s (ix2 b 0)) (fun j => sim (ix2 b j)) i := by
  unfold k0_pay9
  pointwise
  rfl

/-- The write weights of the two gates and the two weightings. -/
def writes (g a : FVec Ideal S8x1 .f32) (al co : FVec Ideal S8x1024 .f32) : FVec Ideal S8x1024 .f32 :=
  k0_pay1 g (addf (mulf (broadcastTo S8x1024 a broadcasts_S8x1_S8x1024) al)
    (mulf (broadcastTo S8x1024 (subf (broadcast S8x1 (Scalar.ofBits .f32 0x3F800000#32)) a) broadcasts_S8x1_S8x1024) co))

/-- The write weights at one row. -/
theorem writes_apply (g a : FVec Ideal S8x1 .f32) (al co : FVec Ideal S8x1024 .f32) (b : Fin 8) (i : Fin 1024) :
    writes g a al co (ix2 b i) = Head.write (g (ix2 b 0)) (a (ix2 b 0)) (al (ix2 b i)) (co (ix2 b i)) := by
  unfold writes k0_pay1
  pointwise
  rfl

end Cert.KernelHead

end
-- ==== Proof.HostIn.lean ====
/- The arrays that the kernel's program prepares before the launch: the input rows with a one appended and padded with
   zeros (`rows`), the six weight matrices side by side with their biases below and padded (`cols`), the usages as a
   column, and the strictly lower triangle. Each is named as a function of the arguments and read at an index. -/
module

public import proofs.«01_k».proof.Proof.KernelHead

@[expose] public section

set_option maxRecDepth 16384

noncomputable section

namespace Cert.HostIn

open Idealize.ShloMosaic Idealize.ShloMosaic.TcCoe Idealize.SL.Sem
open Cert.KernelIdeal Cert.KernelIdeal.Gen

/-- The padding value. -/
def zero : FVec Ideal S_ .f32 := sitofp .f32 (constantI S_ 32 0#32)

/-- The input rows, a one appended, padded to 520 columns. -/
def rows (h : FVec Ideal S1024x512 .f32) : FVec Ideal S1024x520 .f32 :=
  pad S1024x520 ![0, 0] ![0, 7] ![0, 0] (concatenate S1024x513 1 [⟨S1024x512, h⟩,
    ⟨S1024x1, broadcastInDim S1024x1 ![] bcast_S_S1024x1 (constant S_ .f32 0x3F800000#32)⟩]
    concatenates_S1024x512_S1024x1_S1024x513_d1) zero pads_S1024x513_S1024x520_000_070 h_S_

/-- The six weight matrices side by side. -/
def weights (wk wa we : FVec Ideal S512x64 .f32) (ws wg wag : FVec Ideal S512x1 .f32) : FVec Ideal S512x195 .f32 :=
  concatenate S512x195 1 [⟨S512x64, wk⟩, ⟨S512x64, wa⟩, ⟨S512x64, we⟩, ⟨S512x1, ws⟩, ⟨S512x1, wg⟩, ⟨S512x1, wag⟩]
    concatenates_S512x64_S512x64_S512x64_S512x1_S512x1_S512x1_S512x195_d1

/-- The six biases one after another. -/
def biases (bk ba be : FVec Ideal S64 .f32) (bs bg bag : FVec Ideal S1 .f32) : FVec Ideal S195 .f32 :=
  concatenate S195 0 [⟨S64, bk⟩, ⟨S64, ba⟩, ⟨S64, be⟩, ⟨S1, bs⟩, ⟨S1, bg⟩, ⟨S1, bag⟩]
    concatenates_S64_S64_S64_S1_S1_S1_S195_d0

/-- The weights with the biases below, padded to 520 rows and 256 columns. -/
def cols (w : FVec Ideal S512x195 .f32) (b : FVec Ideal S195 .f32) : FVec Ideal S520x256 .f32 :=
  pad S520x256 ![0, 0] ![7, 61] ![0, 0] (concatenate S513x195 0 [⟨S512x195, w⟩,
    ⟨S1x195, broadcastInDim S1x195 ![1] bcast_S195_S1x195_1 b⟩] concatenates_S512x195_S1x195_S513x195_d0)
    zero pads_S513x195_S520x256_070_0610 h_S_

/-- The strictly lower triangle of ones. -/
def lower : FVec Ideal S128x128 .f32 :=
  uitofp .f32 (cmpi .slt (broadcastInDim S128x128 ![0, 1] bcast_S1x128_S128x128_0_1
      (broadcastInDim S1x128 ![1] bcast_S128_S1x128_1 (iotaInDim S128 32 0)))
    (broadcastInDim S128x128 ![0, 1] bcast_S128x1_S128x128_0_1
      (broadcastInDim S128x1 ![0] bcast_S128_S128x1_0 (iotaInDim S128 32 0))))

variable (m : (ℓ : Loc nD τ sig) → Buf (Elt Ideal) ℓ)

/-- The first window's array is the padded rows. -/
theorem V_rows (c : Dev nD) : V m c main_v7 = rows (m ((c : Thread nD τ).loc main_arg0)) := by
  unfold V
  simp only [hostOps0, hostOps0_1, hostOps0_2, hostOps0_3, hostOps0_4, List.flatten_cons, List.flatten_nil,
    List.append_nil, List.cons_append, List.nil_append]
  after_results
  rfl

/-- The fifth window's array is the padded weights and biases. -/
theorem V_cols (c : Dev nD) : V m c main_v4 = cols
    (weights (m ((c : Thread nD τ).loc main_arg3)) (m ((c : Thread nD τ).loc main_arg9))
      (m ((c : Thread nD τ).loc main_arg7)) (m ((c : Thread nD τ).loc main_arg5))
      (m ((c : Thread nD τ).loc main_arg11)) (m ((c : Thread nD τ).loc main_arg13)))
    (biases (m ((c : Thread nD τ).loc main_arg4)) (m ((c : Thread nD τ).loc main_arg10))
      (m ((c : Thread nD τ).loc main_arg8)) (m ((c : Thread nD τ).loc main_arg6))
      (m ((c : Thread nD τ).loc main_arg12)) (m ((c : Thread nD τ).loc main_arg14))) := by
  unfold V
  simp only [hostOps0, hostOps0_1, hostOps0_2, hostOps0_3, hostOps0_4, List.flatten_cons, List.flatten_nil,
    List.append_nil, List.cons_append, List.nil_append]
  after_results
  rfl

/-- The fourth window's array is the usages as a column. -/
theorem V_column (c : Dev nD) (b j : Fin 1024) :
    V m c main_v8 (ix3 b j 0) = m ((c : Thread nD τ).loc main_arg2) (ix2 b j) := by
  have e : V m c main_v8 = (broadcastInDim S1024x1024x1 ![0, 1] bcast_S1024x1024_S1024x1024x1_0_1
      (m ((c : Thread nD τ).loc main_arg2) : FVec Ideal S1024x1024 .f32)) := by
    unfold V
    simp only [hostOps0, hostOps0_1, hostOps0_2, hostOps0_3, hostOps0_4, List.flatten_cons, List.flatten_nil,
      List.append_nil, List.cons_append, List.nil_append]
    after_results
  rw [e]
  generalize (m ((c : Thread nD τ).loc main_arg2) : FVec Ideal S1024x1024 .f32) = u
  pointwise

/-- The sixth window's array is the strictly lower triangle. -/
theorem V_lower (c : Dev nD) : V m c main_v15 = lower := by
  unfold V
  simp only [hostOps0, hostOps0_1, hostOps0_2, hostOps0_3, hostOps0_4, List.flatten_cons, List.flatten_nil,
    List.append_nil, List.cons_append, List.nil_append]
  after_results
  rfl

/-- The padding value is zero. -/
theorem zero_apply (j : S_.Idx) : zero j = 0 := by
  unfold zero
  pointwise
  show (((0#32 : BitVec 32).toInt : ℝ) : EReal) = 0
  simp

/-- Two positions compared as words. -/
theorem slt_eq : ∀ i k : Fin 128,
    IntOp.cmpi CmpIPredicate.slt (BitVec.ofNat 32 k.val) (BitVec.ofNat 32 i.val) = if k < i then 1#1 else 0#1 := by
  decide +kernel

/-- The triangle is one strictly below the diagonal and zero elsewhere. -/
theorem lower_apply (i k : Fin 128) : lower (ix2 i k) = if k < i then 1 else 0 := by
  unfold lower
  pointwise
  rw [slt_eq]
  split_ifs
  · show (((1#1 : BitVec 1).toNat : ℝ) : EReal) = 1
    simp
  · show (((0#1 : BitVec 1).toNat : ℝ) : EReal) = 0
    simp

/-- A padded row: the input, then one, then zeros. -/
theorem rows_apply (h : FVec Ideal S1024x512 .f32) (b : Fin 1024) (k : Fin 520) :
    rows h (ix2 b k) = if _ : k.val < 513 then if hk : k.val < 512 then h (ix2 b ⟨k.val, hk⟩) else 1 else 0 := by
  unfold rows
  pointwise
  rw [zero_apply]

/-- A padded column of the first 195: the weights, then the bias. -/
theorem cols_apply (w : FVec Ideal S512x195 .f32) (x : FVec Ideal S195 .f32) (k : Fin 520) (c : Fin 195) :
    cols w x (ix2 k ⟨c.val, by omega⟩)
      = if _ : k.val < 513 then if hk : k.val < 512 then w (ix2 ⟨k.val, hk⟩ c) else x (ix1 c) else 0 := by
  unfold cols
  pointwise
  rw [zero_apply]

/-- A padded row times a padded column is the linear read-out. -/
theorem dot_eq (h : FVec Ideal S1024x512 .f32) (w : FVec Ideal S512x195 .f32) (x : FVec Ideal S195 .f32)
    (b : Fin 1024) (c : Fin 195) :
    ∑ k, rows h (ix2 b k) * cols w x (ix2 k ⟨c.val, by omega⟩)
      = Head.linear (fun k => h (ix2 b k)) (fun k => w (ix2 k c)) (x (ix1 c)) := by
  refine Head.linear_of_padded _ _ _ _ _ (fun k => ?_) (fun k => ?_) ?_ ?_ (fun k hk => ?_)
  · rw [rows_apply, dif_pos (show k.val < 513 by omega), dif_pos k.isLt]
  · rw [cols_apply, dif_pos (show k.val < 513 by omega), dif_pos k.isLt]
  · rw [rows_apply, dif_pos (show (512 : ℕ) < 513 by omega), dif_neg (show ¬ (512 : ℕ) < 512 by omega)]
  · rw [cols_apply, dif_pos (show (512 : ℕ) < 513 by omega), dif_neg (show ¬ (512 : ℕ) < 512 by omega)]
  · rw [rows_apply, dif_neg (show ¬ k.val < 513 by omega)]

section Columns

variable (wk wa we : FVec Ideal S512x64 .f32) (ws wg wag : FVec Ideal S512x1 .f32)
  (bk ba be : FVec Ideal S64 .f32) (bs bg bag : FVec Ideal S1 .f32)

/-- Columns 0 to 63 of the weights are the key's. -/
theorem weights_key (k : Fin 512) (c : Fin 64) :
    weights wk wa we ws wg wag (ix2 k ⟨c.val, by omega⟩) = wk (ix2 k c) := by
  unfold weights
  pointwise

/-- Columns 64 to 127 are the add vector's. -/
theorem weights_add (k : Fin 512) (c : Fin 64) :
    weights wk wa we ws wg wag (ix2 k ⟨64 + c.val, by omega⟩) = wa (ix2 k c) := by
  unfold weights
  pointwise

/-- Columns 128 to 191 are the erase vector's. -/
theorem weights_erase (k : Fin 512) (c : Fin 64) :
    weights wk wa we ws wg wag (ix2 k ⟨128 + c.val, by omega⟩) = we (ix2 k c) := by
  unfold weights
  pointwise
  simp [show ¬ 128 + c.val < 64 by omega, show 128 + c.val - 64 = 64 + c.val by omega]

/-- Column 192 is the strength's. -/
theorem weights_strength (k : Fin 512) : weights wk wa we ws wg wag (ix2 k ⟨192, by omega⟩) = ws (ix2 k 0) := by
  unfold weights
  pointwise

/-- Column 193 is the write gate's. -/
theorem weights_write (k : Fin 512) : weights wk wa we ws wg wag (ix2 k ⟨193, by omega⟩) = wg (ix2 k 0) := by
  unfold weights
  pointwise

/-- Column 194 is the allocation gate's. -/
theorem weights_alloc (k : Fin 512) : weights wk wa we ws wg wag (ix2 k ⟨194, by omega⟩) = wag (ix2 k 0) := by
  unfold weights
  pointwise

/-- The biases, at the same columns. -/
theorem biases_key (c : Fin 64) : biases bk ba be bs bg bag (ix1 ⟨c.val, by omega⟩) = bk (ix1 c) := by
  unfold biases
  pointwise

theorem biases_add (c : Fin 64) : biases bk ba be bs bg bag (ix1 ⟨64 + c.val, by omega⟩) = ba (ix1 c) := by
  unfold biases
  pointwise

theorem biases_erase (c : Fin 64) : biases bk ba be bs bg bag (ix1 ⟨128 + c.val, by omega⟩) = be (ix1 c) := by
  unfold biases
  pointwise
  simp [show ¬ 128 + c.val < 64 by omega, show 128 + c.val - 64 = 64 + c.val by omega]

theorem biases_strength : biases bk ba be bs bg bag (ix1 ⟨192, by omega⟩) = bs (ix1 0) := by
  unfold biases
  pointwise

theorem biases_write : biases bk ba be bs bg bag (ix1 ⟨193, by omega⟩) = bg (ix1 0) := by
  unfold biases
  pointwise

theorem biases_alloc : biases bk ba be bs bg bag (ix1 ⟨194, by omega⟩) = bag (ix1 0) := by
  unfold biases
  pointwise

end Columns

end Cert.HostIn
end
-- ==== Proof.KernelValue.lean ====
/- The kernel's four result arrays as functions of its arguments. Each grid point handles eight rows of the batch: its
   input blocks are those rows of the prepared arrays (`block…`), its output blocks are the functions of Head.lean and
   the allocation weights at those rows (`point…`), and the 128 points' blocks fill the arrays (`final…`). -/
module

public import proofs.«01_k».proof.Proof.HostIn
public import proofs.«01_k».proof.Proof.Gen.KernelIdeal.Value

@[expose] public section

set_option maxRecDepth 16384

noncomputable section

namespace Cert.KernelValue

open Idealize.ShloMosaic Idealize.ShloMosaic.TcCoe Idealize.SL.Sem
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What a point computes, from its input blocks -/

section Blocks

variable (x0 : FVec Ideal S8x520 .f32) (x1 : FVec Ideal S8x1024x64 .f32) (x2 : FVec Ideal S8x1024 .f32)
  (x3 : FVec Ideal S8x1024x1 .f32) (x4 : FVec Ideal S520x256 .f32) (x5 : FVec Ideal S128x128 .f32)

/-- The erase block. -/
theorem out7_eq : out0_7 (F := Ideal) x0 x1 x2 x3 x4 x5 = k0_pay4 (F := Ideal) x0 x4 := by
  unfold out0_7
  rw [View.canon_unit_zero hz2, View.ld_unit_zero hz2, View.ld_unit_zero hz2]

/-- The add block. -/
theorem out8_eq : out0_8 (F := Ideal) x0 x1 x2 x3 x4 x5 = k0_pay3 (F := Ideal) x0 x4 := by
  unfold out0_8
  rw [View.canon_unit_zero hz2, View.ld_unit_zero hz2, View.ld_unit_zero hz2]

/-- The allocation block. -/
theorem out9_eq : out0_9 (F := Ideal) x0 x1 x2 x3 x4 x5
    = KernelAlloc.allocation x2 (k0_pay11 (F := Ideal) x2) (k0_pay10 (F := Ideal) x3) (k0_pay12 (F := Ideal) x5) := by
  have l2 : View.ld (Val := Elt Ideal) (e' := .f32) x2 r0_3 = x2 := View.ld_unit_zero hz2 _ _
  have l3 : View.ld (Val := Elt Ideal) (e' := .f32) x3 r0_4 = x3 := View.ld_unit_zero hz3 _ _
  have l5 : View.ld (Val := Elt Ideal) (e' := .f32) x5 r0_5 = x5 := View.ld_unit_zero hz2 _ _
  unfold out0_9
  rw [View.canon_unit_zero hz2, KernelAlloc.payload_eq, l2, l3, l5]

/-- The write-weight block. -/
theorem out6_eq : out0_6 (F := Ideal) x0 x1 x2 x3 x4 x5
    = KernelHead.writes (k0_pay6 (F := Ideal) x0 x4) (k0_pay7 (F := Ideal) x0 x4)
        (KernelAlloc.allocation x2 (k0_pay11 (F := Ideal) x2) (k0_pay10 (F := Ideal) x3) (k0_pay12 (F := Ideal) x5))
        (k0_pay9 (F := Ideal) (k0_pay5 (F := Ideal) x0 x4) (k0_pay8 (F := Ideal) x0 x4 x1)) := by
  unfold out0_6 k0_pay90
  have l0 : View.ld (Val := Elt Ideal) (e' := .f32) x0 r0_0 = x0 := View.ld_unit_zero hz2 _ _
  have l1 : View.ld (Val := Elt Ideal) (e' := .f32) x1 r0_2 = x1 := View.ld_unit_zero hz3 _ _
  have l2 : View.ld (Val := Elt Ideal) (e' := .f32) x2 r0_3 = x2 := View.ld_unit_zero hz2 _ _
  have l3 : View.ld (Val := Elt Ideal) (e' := .f32) x3 r0_4 = x3 := View.ld_unit_zero hz3 _ _
  have l4 : View.ld (Val := Elt Ideal) (e' := .f32) x4 r0_1 = x4 := View.ld_unit_zero hz2 _ _
  have l5 : View.ld (Val := Elt Ideal) (e' := .f32) x5 r0_5 = x5 := View.ld_unit_zero hz2 _ _
  rw [View.canon_unit_zero hz2, KernelAlloc.payload_eq, l0, l1, l2, l3, l4, l5]
  rfl

/-- The logarithms of the usages. -/
theorem pay11_apply (b : Fin 8) (j : Fin 1024) : k0_pay11 (F := Ideal) x2 (ix2 b j) = Ideal.log (x2 (ix2 b j)) := rfl

/-- The column of usages is used as it comes. -/
theorem pay10_apply (b : Fin 8) (j : Fin 1024) : k0_pay10 (F := Ideal) x3 (ix3 b j 0) = x3 (ix3 b j 0) := by
  unfold k0_pay10
  pointwise

/-- The triangle is used as it comes. -/
theorem pay12_apply (i k : Fin 128) : k0_pay12 (F := Ideal) x5 (ix2 i k) = x5 (ix2 i k) := by
  unfold k0_pay12
  pointwise

end Blocks

/-! ## A point's input blocks -/

variable (m : (ℓ : Loc nD τ sig) → Buf (Elt Ideal) ℓ) (c : Dev nD)

/-- Row `r` of the eight that point `t` handles. -/
def row (t : Fin cfg0.N) (r : Fin 8) : Fin 1024 :=
  ⟨t.val * 8 + r.val, by have h : t.val < 128 := t.isLt; omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val ∧ win0_1.index t (1 : Fin 3) = 0
    ∧ win0_1.index t (2 : Fin 3) = 0 := (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 3) = t.val ∧ win0_3.index t (1 : Fin 3) = 0
    ∧ win0_3.index t (2 : Fin 3) = 0 := (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)

/-- The point's block of the padded input rows. -/
theorem block0 (t : Fin cfg0.N) (r : Fin 8) (k : Fin 520) :
    iblk m c 0 t (ix2 r k) = V m c main_v7 (ix2 (row t r) k) := by
  obtain ⟨e0, e1⟩ := index0 t
  show V m c main_v7 (((cfg0.win 0).blk t).view.emb (ix2 r k)) = _
  refine congrArg (V m c main_v7) (funext fun a => Fin.ext ?_)
  match a with
  | ⟨0, _⟩ => show win0_0.index t (0 : Fin 2) * 8 + 1 * r.val = t.val * 8 + r.val; omega
  | ⟨1, _⟩ => show win0_0.index t (1 : Fin 2) * 520 + 1 * k.val = k.val; omega

/-- The point's block of the memory. -/
theorem block1 (t : Fin cfg0.N) (r : Fin 8) (i : Fin 1024) (d : Fin 64) :
    iblk m c 1 t (ix3 r i d) = V m c main_arg1 (ix3 (row t r) i d) := by
  obtain ⟨e0, e1, e2⟩ := index1 t
  show V m c main_arg1 (((cfg0.win 1).blk t).view.emb (ix3 r i d)) = _
  refine congrArg (V m c main_arg1) (funext fun a => Fin.ext ?_)
  match a with
  | ⟨0, _⟩ => show win0_1.index t (0 : Fin 3) * 8 + 1 * r.val = t.val * 8 + r.val; omega
  | ⟨1, _⟩ => show win0_1.index t (1 : Fin 3) * 1024 + 1 * i.val = i.val; omega
  | ⟨2, _⟩ => show win0_1.index t (2 : Fin 3) * 64 + 1 * d.val = d.val; omega

/-- The point's block of the usages. -/
theorem block2 (t : Fin cfg0.N) (r : Fin 8) (k : Fin 1024) :
    iblk m c 2 t (ix2 r k) = V m c main_arg2 (ix2 (row t r) k) := by
  obtain ⟨e0, e1⟩ := index2 t
  show V m c main_arg2 (((cfg0.win 2).blk t).view.emb (ix2 r k)) = _
  refine congrArg (V m c main_arg2) (funext fun a => Fin.ext ?_)
  match a with
  | ⟨0, _⟩ => show win0_2.index t (0 : Fin 2) * 8 + 1 * r.val = t.val * 8 + r.val; omega
  | ⟨1, _⟩ => show win0_2.index t (1 : Fin 2) * 1024 + 1 * k.val = k.val; omega

/-- The point's block of the column of usages. -/
theorem block3 (t : Fin cfg0.N) (r : Fin 8) (i : Fin 1024) :
    iblk m c 3 t (ix3 r i 0) = V m c main_v8 (ix3 (row t r) i 0) := by
  obtain ⟨e0, e1, e2⟩ := index3 t
  show V m c main_v8 (((cfg0.win 3).blk t).view.emb (ix3 r i 0)) = _
  refine congrArg (V m c main_v8) (funext fun a => Fin.ext ?_)
  match a with
  | ⟨0, _⟩ => show win0_3.index t (0 : Fin 3) * 8 + 1 * r.val = t.val * 8 + r.val; omega
  | ⟨1, _⟩ => show win0_3.index t (1 : Fin 3) * 1024 + 1 * i.val = i.val; omega
  | ⟨2, _⟩ => show win0_3.index t (2 : Fin 3) * 1 + 1 * 0 = 0; omega

/-- Every point reads the padded weights whole. -/
theorem block4 (t : Fin cfg0.N) : iblk m c 4 t = V m c main_v4 := by
  obtain ⟨e0, e1⟩ := index4 t
  funext j
  show V m c main_v4 (((cfg0.win 4).blk t).view.emb j) = _
  refine congrArg (V m c main_v4) (funext fun a => Fin.ext ?_)
  match a with
  | ⟨0, _⟩ => show win0_4.index t (0 : Fin 2) * 520 + 1 * (j 0).val = (j 0).val; omega
  | ⟨1, _⟩ => show win0_4.index t (1 : Fin 2) * 256 + 1 * (j 1).val = (j 1).val; omega

/-- Every point reads the triangle whole. -/
theorem block5 (t : Fin cfg0.N) : iblk m c 5 t = V m c main_v15 := by
  obtain ⟨e0, e1⟩ := index5 t
  funext j
  show V m c main_v15 (((cfg0.win 5).blk t).view.emb j) = _
  refine congrArg (V m c main_v15) (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega

/-! ## The arguments, and the results as functions of them -/

abbrev aH : FVec Ideal S1024x512 .f32 := m ((c : Thread nD τ).loc main_arg0)
abbrev aMem : FVec Ideal S1024x1024x64 .f32 := m ((c : Thread nD τ).loc main_arg1)
abbrev aUsage : FVec Ideal S1024x1024 .f32 := m ((c : Thread nD τ).loc main_arg2)
abbrev aWk : FVec Ideal S512x64 .f32 := m ((c : Thread nD τ).loc main_arg3)
abbrev aBk : FVec Ideal S64 .f32 := m ((c : Thread nD τ).loc main_arg4)
abbrev aWs : FVec Ideal S512x1 .f32 := m ((c : Thread nD τ).loc main_arg5)
abbrev aBs : FVec Ideal S1 .f32 := m ((c : Thread nD τ).loc main_arg6)
abbrev aWe : FVec Ideal S512x64 .f32 := m ((c : Thread nD τ).loc main_arg7)
abbrev aBe : FVec Ideal S64 .f32 := m ((c : Thread nD τ).loc main_arg8)
abbrev aWa : FVec Ideal S512x64 .f32 := m ((c : Thread nD τ).loc main_arg9)
abbrev aBa : FVec Ideal S64 .f32 := m ((c : Thread nD τ).loc main_arg10)
abbrev aWg : FVec Ideal S512x1 .f32 := m ((c : Thread nD τ).loc main_arg11)
abbrev aBg : FVec Ideal S1 .f32 := m ((c : Thread nD τ).loc main_arg12)
abbrev aWag : FVec Ideal S512x1 .f32 := m ((c : Thread nD τ).loc main_arg13)
abbrev aBag : FVec Ideal S1 .f32 := m ((c : Thread nD τ).loc main_arg14)

/-- The linear read-out of row `b` at column `d` of a 64-column layer of the arguments. -/
def lin64 (w : FVec Ideal S512x64 .f32) (x : FVec Ideal S64 .f32) (b : Fin 1024) (d : Fin 64) : EReal :=
  Head.linear (fun k => aH m c (ix2 b k)) (fun k => w (ix2 k d)) (x (ix1 d))

/-- The linear read-out of row `b` of a one-column layer of the arguments. -/
def lin1 (w : FVec Ideal S512x1 .f32) (x : FVec Ideal S1 .f32) (b : Fin 1024) : EReal :=
  Head.linear (fun k => aH m c (ix2 b k)) (fun k => w (ix2 k 0)) (x (ix1 0))

/-- The erase vectors. -/
def erase (i : S1024x64.Idx) : EReal := Head.gate (lin64 m c (aWe m c) (aBe m c) (i 0) (i 1))

/-- The add vectors. -/
def add (i : S1024x64.Idx) : EReal := lin64 m c (aWa m c) (aBa m c) (i 0) (i 1)

/-- The allocation weights. -/
def alloc (i : S1024x1024.Idx) : EReal := Alloc.weight (fun j => aUsage m c (ix2 (i 0) j)) (i 1)

/-- The content weights of row `b`. -/
def cont (b i : Fin 1024) : EReal :=
  Head.content (Head.strength (lin1 m c (aWs m c) (aBs m c) b))
    (fun j => Head.similarity (lin64 m c (aWk m c) (aBk m c) b) (fun d => aMem m c (ix3 b j d))) i

/-- The write weights. -/
def write (i : S1024x1024.Idx) : EReal :=
  Head.write (Head.gate (lin1 m c (aWg m c) (aBg m c) (i 0))) (Head.gate (lin1 m c (aWag m c) (aBag m c) (i 0)))
    (alloc m c i) (cont m c (i 0) (i 1))

/-! ## A point's output blocks -/

/-- A point's linear read-outs at the first 195 columns. -/
theorem readout (t : Fin cfg0.N) (r : Fin 8) (k : Fin 195) :
    k0_pay2 (F := Ideal) (iblk m c 0 t) (iblk m c 4 t) (ix2 r ⟨k.val, by omega⟩)
      = Head.linear (fun q => aH m c (ix2 (row t r) q))
          (fun q => HostIn.weights (aWk m c) (aWa m c) (aWe m c) (aWs m c) (aWg m c) (aWag m c) (ix2 q k))
          (HostIn.biases (aBk m c) (aBa m c) (aBe m c) (aBs m c) (aBg m c) (aBag m c) (ix1 k)) := by
  rw [KernelHead.pay2_apply, ← HostIn.dot_eq, block4, HostIn.V_cols]
  refine Finset.sum_congr rfl fun q _ => congrArg (· * _) ?_
  rw [block0, HostIn.V_rows]

/-- The point's keys. -/
theorem readout_key (t : Fin cfg0.N) (r : Fin 8) (d : Fin 64) :
    k0_pay2 (F := Ideal) (iblk m c 0 t) (iblk m c 4 t) (ix2 r ⟨d.val, by omega⟩)
      = lin64 m c (aWk m c) (aBk m c) (row t r) d := by
  refine (readout m c t r ⟨d.val, by omega⟩).trans ?_
  rw [HostIn.biases_key]
  simp only [HostIn.weights_key]
  rfl

/-- The point's add vectors. -/
theorem readout_add (t : Fin cfg0.N) (r : Fin 8) (d : Fin 64) :
    k0_pay2 (F := Ideal) (iblk m c 0 t) (iblk m c 4 t) (ix2 r ⟨64 + d.val, by omega⟩)
      = lin64 m c (aWa m c) (aBa m c) (row t r) d := by
  refine (readout m c t r ⟨64 + d.val, by omega⟩).trans ?_
  rw [HostIn.biases_add]
  simp only [HostIn.weights_add]
  rfl

/-- The point's erase vectors, before the gate. -/
theorem readout_erase (t : Fin cfg0.N) (r : Fin 8) (d : Fin 64) :
    k0_pay2 (F := Ideal) (iblk m c 0 t) (iblk m c 4 t) (ix2 r ⟨128 + d.val, by omega⟩)
      = lin64 m c (aWe m c) (aBe m c) (row t r) d := by
  refine (readout m c t r ⟨128 + d.val, by omega⟩).trans ?_
  rw [HostIn.biases_erase]
  simp only [HostIn.weights_erase]
  rfl

/-- The point's strengths, before their function. -/
theorem readout_strength (t : Fin cfg0.N) (r : Fin 8) :
    k0_pay2 (F := Ideal) (iblk m c 0 t) (iblk m c 4 t) (ix2 r 192) = lin1 m c (aWs m c) (aBs m c) (row t r) := by
  refine (readout m c t r ⟨192, by omega⟩).trans ?_
  rw [HostIn.biases_strength]
  simp only [HostIn.weights_strength]
  rfl

/-- The point's write gates, before the gate's function. -/
theorem readout_write (t : Fin cfg0.N) (r : Fin 8) :
    k0_pay2 (F := Ideal) (iblk m c 0 t) (iblk m c 4 t) (ix2 r 193) = lin1 m c (aWg m c) (aBg m c) (row t r) := by
  refine (readout m c t r ⟨193, by omega⟩).trans ?_
  rw [HostIn.biases_write]
  simp only [HostIn.weights_write]
  rfl

/-- The point's allocation gates, before the gate's function. -/
theorem readout_alloc (t : Fin cfg0.N) (r : Fin 8) :
    k0_pay2 (F := Ideal) (iblk m c 0 t) (iblk m c 4 t) (ix2 r 194) = lin1 m c (aWag m c) (aBag m c) (row t r) := by
  refine (readout m c t r ⟨194, by omega⟩).trans ?_
  rw [HostIn.biases_alloc]
  simp only [HostIn.weights_alloc]
  rfl

/-- The point's erase block. -/
theorem point7 (t : Fin cfg0.N) (r : Fin 8) (d : Fin 64) :
    out0_7 (F := Ideal) (iblk m c 0 t) (iblk m c 1 t) (iblk m c 2 t) (iblk m c 3 t) (iblk m c 4 t) (iblk m c 5 t) (ix2 r d)
      = erase m c (ix2 (row t r) d) := by
  rw [out7_eq, KernelHead.pay4_apply, readout_erase]
  rfl

/-- The point's add block. -/
theorem point8 (t : Fin cfg0.N) (r : Fin 8) (d : Fin 64) :
    out0_8 (F := Ideal) (iblk m c 0 t) (iblk m c 1 t) (iblk m c 2 t) (iblk m c 3 t) (iblk m c 4 t) (iblk m c 5 t) (ix2 r d)
      = add m c (ix2 (row t r) d) := by
  rw [out8_eq, KernelHead.pay3_apply, readout_add]
  rfl

/-- The point's allocation block, where the usages are not negative. -/
theorem point_alloc (hu : ∀ i, 0 ≤ aUsage m c i) (t : Fin cfg0.N) (r : Fin 8) (i : Fin 1024) :
    KernelAlloc.allocation (iblk m c 2 t) (k0_pay11 (F := Ideal) (iblk m c 2 t)) (k0_pay10 (F := Ideal) (iblk m c 3 t))
      (k0_pay12 (F := Ideal) (iblk m c 5 t)) (ix2 r i) = alloc m c (ix2 (row t r) i) := by
  have e2 (j : Fin 1024) : iblk m c 2 t (ix2 r j) = aUsage m c (ix2 (row t r) j) := by
    rw [block2, V_main_arg2]
  rw [KernelAlloc.allocation_apply _ _ _ _ _ _ (fun j => pay11_apply _ _ _) (fun j => ?_) (fun i k => ?_) (fun j => ?_)]
  · exact congrArg (fun u => Alloc.weight u i) (funext e2)
  · rw [pay10_apply, block3, HostIn.V_column, e2]
  · rw [pay12_apply, block5, HostIn.V_lower, HostIn.lower_apply]
  · rw [e2]; exact hu _

/-- The point's allocation block. -/
theorem point9 (hu : ∀ i, 0 ≤ aUsage m c i) (t : Fin cfg0.N) (r : Fin 8) (i : Fin 1024) :
    out0_9 (F := Ideal) (iblk m c 0 t) (iblk m c 1 t) (iblk m c 2 t) (iblk m c 3 t) (iblk m c 4 t) (iblk m c 5 t) (ix2 r i)
      = alloc m c (ix2 (row t r) i) := by
  rw [out9_eq, point_alloc m c hu]

/-- The point's write-weight block. -/
theorem point6 (hu : ∀ i, 0 ≤ aUsage m c i) (t : Fin cfg0.N) (r : Fin 8) (i : Fin 1024) :
    out0_6 (F := Ideal) (iblk m c 0 t) (iblk m c 1 t) (iblk m c 2 t) (iblk m c 3 t) (iblk m c 4 t) (iblk m c 5 t) (ix2 r i)
      = write m c (ix2 (row t r) i) := by
  rw [out6_eq, KernelHead.writes_apply, point_alloc m c hu, KernelHead.pay9_apply, KernelHead.pay5_apply,
    KernelHead.pay6_apply, KernelHead.pay7_apply, readout_strength, readout_write, readout_alloc]
  simp only [KernelHead.pay8_apply, readout_key, block1, V_main_arg1]
  rfl

/-! ## The arrays -/

/-- The points' blocks of the write weights are their rows of the array. -/
theorem emb6 (t : Fin cfg0.N) (r : Fin 8) (k : Fin 1024) :
    ((cfg0.win 6).blk t).view.emb (ix2 r k) = (ix2 (row t r) k : S1024x1024.Idx) := by
  obtain ⟨e0, e1⟩ := index6 t
  refine funext fun a => Fin.ext ?_
  match a with
  | ⟨0, _⟩ => show win0_6.index t (0 : Fin 2) * 8 + 1 * r.val = t.val * 8 + r.val; omega
  | ⟨1, _⟩ => show win0_6.index t (1 : Fin 2) * 1024 + 1 * k.val = k.val; omega
theorem emb7 (t : Fin cfg0.N) (r : Fin 8) (k : Fin 64) :
    ((cfg0.win 7).blk t).view.emb (ix2 r k) = (ix2 (row t r) k : S1024x64.Idx) := by
  obtain ⟨e0, e1⟩ := index7 t
  refine funext fun a => Fin.ext ?_
  match a with
  | ⟨0, _⟩ => show win0_7.index t (0 : Fin 2) * 8 + 1 * r.val = t.val * 8 + r.val; omega
  | ⟨1, _⟩ => show win0_7.index t (1 : Fin 2) * 64 + 1 * k.val = k.val; omega
theorem emb8 (t : Fin cfg0.N) (r : Fin 8) (k : Fin 64) :
    ((cfg0.win 8).blk t).view.emb (ix2 r k) = (ix2 (row t r) k : S1024x64.Idx) := by
  obtain ⟨e0, e1⟩ := index8 t
  refine funext fun a => Fin.ext ?_
  match a with
  | ⟨0, _⟩ => show win0_8.index t (0 : Fin 2) * 8 + 1 * r.val = t.val * 8 + r.val; omega
  | ⟨1, _⟩ => show win0_8.index t (1 : Fin 2) * 64 + 1 * k.val = k.val; omega
theorem emb9 (t : Fin cfg0.N) (r : Fin 8) (k : Fin 1024) :
    ((cfg0.win 9).blk t).view.emb (ix2 r k) = (ix2 (row t r) k : S1024x1024.Idx) := by
  obtain ⟨e0, e1⟩ := index9 t
  refine funext fun a => Fin.ext ?_
  match a with
  | ⟨0, _⟩ => show win0_9.index t (0 : Fin 2) * 8 + 1 * r.val = t.val * 8 + r.val; omega
  | ⟨1, _⟩ => show win0_9.index t (1 : Fin 2) * 1024 + 1 * k.val = k.val; omega

/-- Every row of the batch is one of some point's eight. -/
theorem row_cover (b : Fin 1024) : ∃ (t : Fin cfg0.N) (r : Fin 8), row t r = b :=
  ⟨(⟨b.val / 8, show b.val / 8 < 128 by omega⟩ : Fin cfg0.N), ⟨b.val % 8, by omega⟩,
    Fin.ext (show b.val / 8 * 8 + b.val % 8 = b.val by omega)⟩

/-- The write weights after the run. -/
theorem final6 (hu : ∀ i, 0 ≤ aUsage m c i) : (dats m 0 c).arrAt 6 cfg0.N = write m c :=
  (dats m 0 c).arrAt_eq_of_cover 6 (write m c)
    (fun t _ => by
      rw [Value.flushed6]
      funext j
      idx_vars j
      show out0_6 (F := Ideal) _ _ _ _ _ _ (ix2 j0 j1) = write m c (((cfg0.win 6).blk t).view.emb (ix2 j0 j1))
      rw [emb6, point6 m c hu])
    (fun i => by
      idx_vars i
      obtain ⟨t, r, h⟩ := row_cover i0
      refine ⟨t, flush0_6 t, ?_⟩
      have q := ((cfg0.win 6).blk t).view.emb_mem_set (ix2 r i1)
      rwa [emb6, h] at q)

/-- The erase vectors after the run. -/
theorem final7 : (dats m 0 c).arrAt 7 cfg0.N = erase m c :=
  (dats m 0 c).arrAt_eq_of_cover 7 (erase m c)
    (fun t _ => by
      rw [Value.flushed7]
      funext j
      idx_vars j
      show out0_7 (F := Ideal) _ _ _ _ _ _ (ix2 j0 j1) = erase m c (((cfg0.win 7).blk t).view.emb (ix2 j0 j1))
      rw [emb7, point7])
    (fun i => by
      idx_vars i
      obtain ⟨t, r, h⟩ := row_cover i0
      refine ⟨t, flush0_7 t, ?_⟩
      have q := ((cfg0.win 7).blk t).view.emb_mem_set (ix2 r i1)
      rwa [emb7, h] at q)

/-- The add vectors after the run. -/
theorem final8 : (dats m 0 c).arrAt 8 cfg0.N = add m c :=
  (dats m 0 c).arrAt_eq_of_cover 8 (add m c)
    (fun t _ => by
      rw [Value.flushed8]
      funext j
      idx_vars j
      show out0_8 (F := Ideal) _ _ _ _ _ _ (ix2 j0 j1) = add m c (((cfg0.win 8).blk t).view.emb (ix2 j0 j1))
      rw [emb8, point8])
    (fun i => by
      idx_vars i
      obtain ⟨t, r, h⟩ := row_cover i0
      refine ⟨t, flush0_8 t, ?_⟩
      have q := ((cfg0.win 8).blk t).view.emb_mem_set (ix2 r i1)
      rwa [emb8, h] at q)

/-- The allocation weights after the run. -/
theorem final9 (hu : ∀ i, 0 ≤ aUsage m c i) : (dats m 0 c).arrAt 9 cfg0.N = alloc m c :=
  (dats m 0 c).arrAt_eq_of_cover 9 (alloc m c)
    (fun t _ => by
      rw [Value.flushed9]
      funext j
      idx_vars j
      show out0_9 (F := Ideal) _ _ _ _ _ _ (ix2 j0 j1) = alloc m c (((cfg0.win 9).blk t).view.emb (ix2 j0 j1))
      rw [emb9, point9 m c hu])
    (fun i => by
      idx_vars i
      obtain ⟨t, r, h⟩ := row_cover i0
      refine ⟨t, flush0_9 t, ?_⟩
      have q := ((cfg0.win 9).blk t).view.emb_mem_set (ix2 r i1)
      rwa [emb9, h] at q)

end Cert.KernelValue

end
-- ==== Proof.RefAlloc.lean ====
/- The reference's allocation weights, read at an index. The reference sorts each row of usages, takes the running product of
   the sorted row by ten doubling passes, multiplies by one minus the sorted usage, and puts each product back at the row it
   came from. Row by row this is `Cert.Alloc.weight`. -/
module

public import proofs.«01_k».proof.Proof.Gen.ReferenceIdeal.Read
public import proofs.«01_k».proof.Proof.Usage
public import Idealize.ShloMosaic.Lib.Pointwise
public import Idealize.ShloMosaic.Lib.Pointwise.IndexBridge
public import Idealize.ShloMosaic.Lib.Routing.OpsPair
public import Idealize.ShloMosaic.Lib.Routing.OpsSet

@[expose] public section

set_option maxRecDepth 16384

noncomputable section

namespace Cert.RefAlloc

open Idealize.ShloMosaic Idealize.ShloMosaic.TcCoe Idealize.SL.Sem
open Cert.ReferenceIdeal Cert.ReferenceIdeal.Gen Cert.ReferenceIdeal.Read

local notation "Mat" => FVec Ideal S1024x1024 FTy.f32

/-! ## The order of a row -/

/-- The row numbers of row `b` of usages, from the least usage to the greatest, equal usages in their own order. -/
def order (x : Mat) (b : Fin 1024) : Fin 1024 → Fin 1024 :=
  sortedFrom fun i j => decide (x (ix2 b i) < x (ix2 b j))

/-- The comparator the sort applies says whether the first key is below the second: over the extended reals its treatment of
    signed zeros and of not-a-number changes nothing. -/
theorem comparator_apply (l r : EReal × BitVec 32) :
    (comparator_f32_i32_d1 (F := Ideal) l r == 1#1) = decide (l.1 < r.1) := by
  have key (x : EReal) : (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) : EReal) = x := by
    have h1 : FloatOps.cmpf (F := Ideal) (φ := .f32) .une x x = 0#1 := by
      show BitVec.ofBool (decide (x ≠ x)) = 0#1
      simp
    rw [h1, ValueIdx.select_zero]
    by_cases h : x = FloatOps.ofBits (F := Ideal) .f32 0x00000000#32
    · have h2 : FloatOps.cmpf (F := Ideal) (φ := .f32) .oeq x (FloatOps.ofBits .f32 0x00000000#32) = 1#1 := by
        show BitVec.ofBool (decide (x = FloatOps.ofBits (F := Ideal) .f32 0x00000000#32)) = 1#1
        rw [decide_eq_true h]; rfl
      rw [h2, ValueIdx.select_one]; exact h.symm
    · have h2 : FloatOps.cmpf (F := Ideal) (φ := .f32) .oeq x (FloatOps.ofBits .f32 0x00000000#32) = 0#1 := by
        show BitVec.ofBool (decide (x = FloatOps.ofBits (F := Ideal) .f32 0x00000000#32)) = 0#1
        rw [decide_eq_false h]; rfl
      rw [h2, ValueIdx.select_zero]
  have : comparator_f32_i32_d1 (F := Ideal) l r = BitVec.ofBool (decide (l.1 < r.1)) := by
    show FloatOps.cmpfTotal (F := Ideal) (φ := .f32) .lt _ _ = _
    rw [key l.1, key r.1]
    rfl
  rw [this]
  cases decide (l.1 < r.1) <;> rfl

/-- The sorted row numbers, as 32-bit words. -/
theorem sorted_apply (x : Mat) (b k : Fin 1024) :
    val_main_v69 (F := Ideal) x (ix2 b k) = BitVec.ofNat 32 (order x b k).val := by
  have h1 : 1 < S1024x1024.rank := by decide
  have hrow (j : Fin 1024) : Shape.Idx.along (s := S1024x1024) (ix2 b k) ⟨1, h1⟩ j = ix2 b j := by
    funext e; match e with | ⟨0, _⟩ => rfl | ⟨1, _⟩ => rfl
  have hk (j : Fin 1024) : val_main_call3_v0 (F := Ideal) (Shape.Idx.along (s := S1024x1024) (ix2 b k) ⟨1, h1⟩ j)
      = BitVec.ofNat 32 j.val := by rw [hrow]; rfl
  unfold val_main_v69 Host.sort2
  rw [dif_pos h1]
  refine (hk _).trans ?_
  refine congrArg (fun c : Fin 1024 => BitVec.ofNat 32 c.val) ?_
  show sortedFrom _ k = sortedFrom _ k
  refine congrArg (fun c => sortedFrom (n := 1024) c k) ?_
  funext i j
  refine (comparator_apply _ _).trans ?_
  exact congrArg₂ (fun p q => decide (x p < x q)) (hrow i) (hrow j)

/-! ## Reading a row at given columns -/

/-- The column numbers as the gather takes them: negative ones counted from the end, one column number to a cell. -/
def columns (ix : IVec S1024x1024 32) : IVec S1024x1024x1 32 :=
  shapeCast _ (select (cmpi .slt ix (broadcastInDim S1024x1024 ![] bcast_S_S1024x1024 (constantI S_ 32 0#32)))
    (addi ix (broadcastInDim S1024x1024 ![] bcast_S_S1024x1024 (constantI S_ 32 1024#32))) ix) shapeCasts_S1024x1024_S1024x1024x1

/-- The entries of `x` at the columns `ix` of their rows; a column outside the row reads as not-a-number. -/
def take (x : Mat) (ix : IVec S1024x1024 32) : Mat :=
  select (Host.reduce IntOp.andi (andi
      (cmpi .sge (columns ix) (broadcastInDim S1024x1024x1 ![] bcast_S_S1024x1024x1 (constantI S_ 32 0#32)))
      (cmpi .sle (columns ix) (broadcastInDim S1024x1024x1 ![0, 1, 2] bcast_S1x1x1_S1024x1024x1_0_1_2
        (broadcastInDim S1x1x1 ![2] bcast_S1_S1x1x1_2 (constantI S1 32 1023#32)))))
      (constantI S_ 1 1#1) reducesTo_S1024x1024x1_S1024x1024_d2 h_S_)
    (Host.gather gather_S1024x1024_S1024x1024x1_S1024x1024_n_1_0_0_1_2_11 x (columns ix))
    (broadcastInDim S1024x1024 ![] bcast_S_S1024x1024 (constant S_ .f32 0x7FC00000#32))

/-- The sorted usages are the usages at the sorted row numbers. -/
theorem v70_take (x : Mat) : val_main_v70 (F := Ideal) x = take x (val_main_v69 (F := Ideal) x) := rfl

/-- So are the factors `1 - usage`. -/
theorem v114_take (x : Mat) : val_main_v114 (F := Ideal) x = take (val_main_v68 (F := Ideal) x) (val_main_v69 (F := Ideal) x) := rfl

/-- A column number inside the row is kept as it is. -/
theorem columns_apply (ix : IVec S1024x1024 32) (b k : Fin 1024) (h : (ix (ix2 b k)).toNat < 1024) (z : Fin 1) :
    columns ix (ix3 b k z) = ix (ix2 b k) := by
  unfold columns
  pointwise
  rw [WordCmp.cmpi_slt_zero, decide_eq_false (by omega)]
  rfl

/-- The gather reads row `b` at the column it is given. -/
theorem gather_apply (x : Mat) (idx : IVec S1024x1024x1 32) (b k c : Fin 1024) (h : (idx (ix3 b k 0)).toInt = c.val) :
    Host.gather gather_S1024x1024_S1024x1024x1_S1024x1024_n_1_0_0_1_2_11 x idx (ix2 b k) = x (ix2 b c) := by
  unfold Host.gather
  refine congrArg x ?_
  funext a
  refine Fin.ext ?_
  show GatherDims.start _ (ix2 b k) idx a + GatherDims.batchCoord _ (ix2 b k) a + GatherDims.offCoord _ (ix2 b k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (0 : Fin 2) ∈ gather_S1024x1024_S1024x1024x1_S1024x1024_n_1_0_0_1_2_11.operandBatchingDims from
      List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S1024x1024_S1024x1024x1_S1024x1024_n_1_0_0_1_2_11.startIndexMap from
      List.mem_singleton.mpr rfl)]
    have hsi : gather_S1024x1024_S1024x1024x1_S1024x1024_n_1_0_0_1_2_11.siIdx (ix2 b k)
        ⟨List.idxOf (1 : Fin 2) gather_S1024x1024_S1024x1024x1_S1024x1024_n_1_0_0_1_2_11.startIndexMap,
          List.idxOf_lt_length_iff.2 (List.mem_singleton.mpr rfl)⟩ = ix3 b k 0 := by
      funext e; refine Fin.ext ?_
      match e with
      | ⟨0, _⟩ => rfl
      | ⟨1, _⟩ => rfl
      | ⟨2, _⟩ => rfl
    show min (idx (gather_S1024x1024_S1024x1024x1_S1024x1024_n_1_0_0_1_2_11.siIdx (ix2 b k) _)).toInt.toNat (1024 - 1) = c.val
    rw [hsi, h, Int.toNat_natCast]
    have := c.isLt
    omega

/-- Taking a row at the columns `ix`, all inside the row, reads those columns. -/
theorem take_apply (x : Mat) (ix : IVec S1024x1024 32) (b k c : Fin 1024) (h : ix (ix2 b k) = BitVec.ofNat 32 c.val) :
    take x ix (ix2 b k) = x (ix2 b c) := by
  have hc := c.isLt
  have hn : (ix (ix2 b k)).toNat = c.val := by rw [h, BitVec.toNat_ofNat]; omega
  have hcol (z : Fin 1) : columns ix (ix3 b k z) = BitVec.ofNat 32 c.val := by rw [columns_apply ix b k (by omega) z, h]
  have hg := gather_apply x (columns ix) b k c (by rw [hcol 0]; exact WordCmp.toInt_ofNat_of_lt (by omega))
  unfold take
  rw [ValueIdx.select_apply, hg]
  have hm : Host.reduce IntOp.andi (andi
      (cmpi .sge (columns ix) (broadcastInDim S1024x1024x1 ![] bcast_S_S1024x1024x1 (constantI S_ 32 0#32)))
      (cmpi .sle (columns ix) (broadcastInDim S1024x1024x1 ![0, 1, 2] bcast_S1x1x1_S1024x1024x1_0_1_2
        (broadcastInDim S1x1x1 ![2] bcast_S1_S1x1x1_2 (constantI S1 32 1023#32)))))
      (constantI S_ 1 1#1) reducesTo_S1024x1024x1_S1024x1024_d2 h_S_ (ix2 b k) = 1#1 := by
    pointwise
    have hone (z : Fin 1) : IntOp.andi (IntOp.cmpi .sge (columns ix (ix3 b k z)) 0#32)
        (IntOp.cmpi .sle (columns ix (ix3 b k z)) 1023#32) = 1#1 := by
      rw [hcol z, WordCmp.cmpi_sge_zero, WordCmp.cmpi_sle_ofNat (by omega) (by omega), BitVec.toNat_ofNat,
        decide_eq_true (by omega), decide_eq_true (by omega)]
      rfl
    simp only [hone]
    rfl
  rw [hm, ValueIdx.select_one]

/-! ## The doubling passes -/

/-- The column `s` before, or one where there is none: ones set before the first columns of the row. -/
theorem pass_apply {s t : Nat} (hst : s + t = 1024) (x : Mat) (b k : Fin 1024)
    (one : FVec Ideal (⟨2, ![1024, s]⟩ : Shape) FTy.f32) (h1 : ∀ j, one j = 1)
    (hs : S1024x1024.Slices ![0, 0] (⟨2, ![1024, t]⟩ : Shape))
    (hc : Shape.Concatenates [⟨2, ![1024, s]⟩, ⟨2, ![1024, t]⟩] S1024x1024 1) :
    concatenate S1024x1024 1 [⟨⟨2, ![1024, s]⟩, one⟩, ⟨⟨2, ![1024, t]⟩, extractStridedSlice ⟨2, ![1024, t]⟩ ![0, 0] x hs⟩] hc (ix2 b k)
      = if k.val < s then 1 else x (ix2 b ⟨k.val - s, by omega⟩) := by
  by_cases h : k.val < s
  · rw [if_pos h, concatenate_pair_apply_left 1 one _ hc (ix2 b k) rfl (ix2 b ⟨k.val, h⟩) (fun e => by
      match e with | ⟨0, _⟩ => rfl | ⟨1, _⟩ => rfl), h1]
  · rw [if_neg h, concatenate_pair_apply_right 1 one _ hc (ix2 b k) rfl rfl (ix2 b ⟨k.val - s, by omega⟩) (fun e => by
      match e with | ⟨0, _⟩ => exact fun _ => rfl | ⟨1, _⟩ => exact fun h => absurd rfl h)
      (show k.val - s + s = k.val by omega)]
    exact extractStridedSlice_apply ![0, 0] x hs (ix2 b ⟨k.val - s, by omega⟩) (ix2 b ⟨k.val - s, by omega⟩) (fun e => by
      match e with | ⟨0, _⟩ => exact (Nat.zero_add _).symm | ⟨1, _⟩ => exact (Nat.zero_add _).symm)

/-- So a pass carries a window of `s` columns to one of `2 s`. -/
theorem pass_window {s t : Nat} (hst : s + t = 1024) (x : Mat) (b : Fin 1024) (a : Fin 1024 → EReal)
    (one : FVec Ideal (⟨2, ![1024, s]⟩ : Shape) FTy.f32) (h1 : ∀ j, one j = 1)
    (hs : S1024x1024.Slices ![0, 0] (⟨2, ![1024, t]⟩ : Shape))
    (hc : Shape.Concatenates [⟨2, ![1024, s]⟩, ⟨2, ![1024, t]⟩] S1024x1024 1)
    (hx : Alloc.Window a s fun k => x (ix2 b k)) :
    Alloc.Window a (s + s) fun k => mulf x (concatenate S1024x1024 1
      [⟨⟨2, ![1024, s]⟩, one⟩, ⟨⟨2, ![1024, t]⟩, extractStridedSlice ⟨2, ![1024, t]⟩ ![0, 0] x hs⟩] hc) (ix2 b k) :=
  Alloc.window_double hx fun k => congrArg (x (ix2 b k) * ·) (pass_apply hst x b k one h1 hs hc)

/-- A constant table of ones. -/
theorem ones_apply {s : Shape} (h : S_.BroadcastsInDim s ![]) (j : s.Idx) :
    broadcastInDim s ![] h (constant (F := Ideal) S_ .f32 0x3F800000#32) j = 1 := by
  pointwise

/-- After ten passes column `k` holds the product of the first `k + 1` sorted usages. -/
theorem running_apply (x : Mat) (b k : Fin 1024) :
    val_main_v110 (F := Ideal) x (ix2 b k) = ∏ l : Fin 1024, if l ≤ k then val_main_v70 (F := Ideal) x (ix2 b l) else 1 := by
  set a : Fin 1024 → EReal := fun l => val_main_v70 (F := Ideal) x (ix2 b l) with ha
  have w1 : Alloc.Window a 1 fun k => val_main_v70 (F := Ideal) x (ix2 b k) := Alloc.window_one a
  have w2 : Alloc.Window a 2 fun k => val_main_v74 (F := Ideal) x (ix2 b k) :=
    pass_window (s := 1) (t := 1023) rfl _ b a _ (ones_apply _) _ concatenates_S1024x1_S1024x1023_S1024x1024_d1 w1
  have w4 : Alloc.Window a 4 fun k => val_main_v78 (F := Ideal) x (ix2 b k) := pass_window (s := 2) (t := 1022) rfl _ b a _ (ones_apply _) _ _ w2
  have w8 : Alloc.Window a 8 fun k => val_main_v82 (F := Ideal) x (ix2 b k) := pass_window (s := 4) (t := 1020) rfl _ b a _ (ones_apply _) _ _ w4
  have w16 : Alloc.Window a 16 fun k => val_main_v86 (F := Ideal) x (ix2 b k) := pass_window (s := 8) (t := 1016) rfl _ b a _ (ones_apply _) _ _ w8
  have w32 : Alloc.Window a 32 fun k => val_main_v90 (F := Ideal) x (ix2 b k) := pass_window (s := 16) (t := 1008) rfl _ b a _ (ones_apply _) _ _ w16
  have w64 : Alloc.Window a 64 fun k => val_main_v94 (F := Ideal) x (ix2 b k) := pass_window (s := 32) (t := 992) rfl _ b a _ (ones_apply _) _ _ w32
  have w128 : Alloc.Window a 128 fun k => val_main_v98 (F := Ideal) x (ix2 b k) := pass_window (s := 64) (t := 960) rfl _ b a _ (ones_apply _) _ _ w64
  have w256 : Alloc.Window a 256 fun k => val_main_v102 (F := Ideal) x (ix2 b k) := pass_window (s := 128) (t := 896) rfl _ b a _ (ones_apply _) _ _ w128
  have w512 : Alloc.Window a 512 fun k => val_main_v106 (F := Ideal) x (ix2 b k) := pass_window (s := 256) (t := 768) rfl _ b a _ (ones_apply _) _ _ w256
  have w1024 : Alloc.Window a 1024 fun k => val_main_v110 (F := Ideal) x (ix2 b k) := pass_window (s := 512) (t := 512) rfl _ b a _ (ones_apply _) _ _ w512
  exact Alloc.window_full w1024 le_rfl k

/-- Moved one column on, column `k` holds the product of the sorted usages before it. -/
theorem exclusive_apply (x : Mat) (b k : Fin 1024) :
    val_main_v113 (F := Ideal) x (ix2 b k) = ∏ l : Fin 1024, if l < k then val_main_v70 (F := Ideal) x (ix2 b l) else 1 := by
  refine (pass_apply (s := 1) (t := 1023) rfl (val_main_v110 (F := Ideal) x) b k _ (ones_apply _) _
    concatenates_S1024x1_S1024x1023_S1024x1024_d1).trans ?_
  by_cases h : k.val < 1
  · rw [if_pos h]
    refine (Finset.prod_eq_one fun l _ => if_neg ?_).symm
    rw [Fin.lt_def]; omega
  · rw [if_neg h, running_apply]
    refine Finset.prod_congr rfl fun l _ => if_congr ?_ rfl rfl
    rw [Fin.lt_def, Fin.le_def]
    show l.val ≤ k.val - 1 ↔ _
    omega

/-! ## The weights, in the order of the sorted row and back in their places -/

/-- The sorted usages. -/
theorem v70_apply (x : Mat) (b k : Fin 1024) : val_main_v70 (F := Ideal) x (ix2 b k) = x (ix2 b (order x b k)) := by
  rw [v70_take]
  exact take_apply x _ b k _ (sorted_apply x b k)

/-- One minus the sorted usages. -/
theorem v114_apply (x : Mat) (b k : Fin 1024) :
    val_main_v114 (F := Ideal) x (ix2 b k) = 1 - x (ix2 b (order x b k)) := by
  rw [v114_take, take_apply _ _ b k _ (sorted_apply x b k)]
  show (val_main_v67 (F := Ideal) _ : EReal) - _ = _
  rw [show (val_main_v67 (F := Ideal) (ix2 b (order x b k)) : EReal) = 1 from ones_apply _ _]

/-- Column `k` of the sorted row holds the weight of the row number it came from. -/
theorem v115_apply (x : Mat) (b k : Fin 1024) :
    val_main_v115 (F := Ideal) x (ix2 b k) = Alloc.weight (fun j => x (ix2 b j)) (order x b k) := by
  show (val_main_v114 (F := Ideal) x (ix2 b k) : EReal) * val_main_v113 (F := Ideal) x (ix2 b k) = _
  rw [v114_apply, exclusive_apply]
  unfold Alloc.weight
  refine congrArg ((1 - x (ix2 b (order x b k))) * ·) ?_
  simp only [v70_apply]
  exact Alloc.prod_sorted (fun j => x (ix2 b j)) (order x b) ⟨sortedFrom_injective _, sortedFrom_surjective _⟩
    (fun i j h => Alloc.sortedFrom_before _ h) k

/-- A row number below 1024 is not counted from the end. -/
theorem wrap_word {n : Nat} (a : BitVec 32) (h : n < 1024) :
    Scalar.select (IntOp.cmpi .slt (BitVec.ofNat 32 n) 0#32) a (BitVec.ofNat 32 n) = BitVec.ofNat 32 n :=
  Routing.wrap_of_lt _ _ (by rw [BitVec.toNat_ofNat]; omega)

/-- The place each weight is put back at: its own row of the table, and the row number it came from. -/
theorem v132_apply (x : Mat) (b k : Fin 1024) :
    val_main_v132 (F := Ideal) x (ix3 b k 0) = BitVec.ofNat 32 b.val
      ∧ val_main_v132 (F := Ideal) x (ix3 b k 1) = BitVec.ofNat 32 (order x b k).val := by
  constructor
  · unfold val_main_v132
    pointwise
    rw [val_main_v130_apply, val_main_v129_apply, val_main_v123_apply, val_main_v120_apply, val_main_v119_apply,
      val_main_v117_apply, val_main_v116_apply]
    exact wrap_word _ b.isLt
  · unfold val_main_v132
    pointwise
    have hi : idx_main_v131 (ix3 b k 0) = ix2 b k := by
      funext e; match e with | ⟨0, _⟩ => rfl | ⟨1, _⟩ => rfl
    rw [val_main_v131_apply, hi, val_main_v128_apply, val_main_v125_apply, sorted_apply]
    exact wrap_word _ (Fin.isLt _)

/-- The reference's allocation weights. -/
theorem v133_apply (x : Mat) (b i : Fin 1024) :
    val_main_v133 (F := Ideal) x (ix2 b i) = Alloc.weight (fun j => x (ix2 b j)) i := by
  have lands (c k : Fin 1024) := Routing.scatter_lands2 scatter_S1024x1024_S1024x1024x2_S1024x1024_n_01_01_2 rfl rfl rfl
    (val_main_v132 (F := Ideal) x) c k b i
  have word (n : Nat) (h : n < 1024) : (BitVec.ofNat 32 n).toInt = (n : Int) := WordCmp.toInt_ofNat_of_lt (by omega)
  simp only [← ix2_eq_valueIdx, ← ix3_eq_valueIdx, (v132_apply x _ _).1, (v132_apply x _ _).2, word _ (Fin.isLt _), Nat.cast_inj,
    Fin.val_inj] at lands
  unfold val_main_v133
  obtain ⟨k, hk⟩ := sortedFrom_surjective (fun i j => decide (x (ix2 b i) < x (ix2 b j))) i
  refine Routing.scatter_set_hit _ _ _ _ (ix2 b i) _ (fun q hq => ?_) (ix2 b k) ((lands b k).2 ⟨rfl, hk⟩)
  revert hq
  idx_vars q
  intro hq
  obtain ⟨rfl, rfl⟩ := (lands _ _).1 hq
  exact v115_apply x _ _

end Cert.RefAlloc

end
-- ==== Proof.RefHead.lean ====
/- The reference's results other than the allocation, row by row: the erase and add vectors, the two gates, the
   content weights and the write weights, in the functions of Head.lean. -/
module

public import proofs.«01_k».proof.Proof.Head
public import proofs.«01_k».proof.Proof.RefAlloc

@[expose] public section

set_option maxRecDepth 16384

noncomputable section

namespace Cert.RefHead

open Idealize.ShloMosaic Idealize.ShloMosaic.TcCoe Idealize.SL.Sem
open Cert.ReferenceIdeal Cert.ReferenceIdeal.Gen Cert.ReferenceIdeal.Read

variable (x0 : FVec Ideal S1024x512 .f32) (x1 : FVec Ideal S1024x1024x64 .f32) (x2 : FVec Ideal S1024x1024 .f32)
  (x3 : FVec Ideal S512x64 .f32) (x4 : FVec Ideal S64 .f32) (x5 : FVec Ideal S512x1 .f32) (x6 : FVec Ideal S1 .f32)
  (x11 : FVec Ideal S512x1 .f32) (x12 : FVec Ideal S1 .f32) (x13 : FVec Ideal S512x1 .f32) (x14 : FVec Ideal S1 .f32)

/-- The linear read-out of row `b` at column `c` of a 64-column layer. -/
def lin64 (b : Fin 1024) (c : Fin 64) : EReal :=
  Head.linear (fun k => x0 (ix2 b k)) (fun k => x3 (ix2 k c)) (x4 (ix1 c))

/-- The linear read-out of row `b` of a one-column layer. -/
def lin1 (b : Fin 1024) : EReal :=
  Head.linear (fun k => x0 (ix2 b k)) (fun k => x5 (ix2 k 0)) (x6 (ix1 0))

/-- The key. -/
theorem v3_apply (b : Fin 1024) (c : Fin 64) : val_main_v3 (F := Ideal) x0 x3 x4 (ix2 b c) = lin64 x0 x3 x4 b c := by
  unfold val_main_v3 val_main_v2 val_main_v1 val_main_v0
  pointwise
  rfl

/-- The add vector. -/
theorem v22_apply (b : Fin 1024) (c : Fin 64) : val_main_v22 (F := Ideal) x0 x3 x4 (ix2 b c) = lin64 x0 x3 x4 b c := by
  unfold val_main_v22 val_main_v21 val_main_v20 val_main_v19
  pointwise
  rfl

/-- The erase vector. -/
theorem v18_apply (b : Fin 1024) (c : Fin 64) :
    val_main_v18 (F := Ideal) x0 x3 x4 (ix2 b c) = Head.gate (lin64 x0 x3 x4 b c) := by
  unfold val_main_v18 val_main_v17 val_main_v16 val_main_v15 val_main_v14 val_main_v13 val_main_cst val_main_cst_0
    val_main_v12 val_main_v11 val_main_v10 val_main_v9
  pointwise
  rfl

/-- The strength. -/
theorem v8_apply (b : Fin 1024) : val_main_v8 (F := Ideal) x0 x5 x6 (ix2 b 0) = Head.strength (lin1 x0 x5 x6 b) := by
  have e : val_main_v7 (F := Ideal) x0 x5 x6 (ix2 b 0) = lin1 x0 x5 x6 b := by
    unfold val_main_v7 val_main_v6 val_main_v5 val_main_v4
    pointwise
    rfl
  unfold val_main_v8 val_main_call0_v11 val_main_call0_v10 val_main_call0_v9 val_main_call0_v8 val_main_call0_v7
    val_main_call0_v6 val_main_call0_v5 val_main_call0_v4 val_main_call0_v3 val_main_call0_v2 val_main_call0_v1
    val_main_call0_v0 val_main_call0_cst
  generalize val_main_v7 (F := Ideal) x0 x5 x6 = lin at e ⊢
  pointwise
  rw [e, if_neg (fun h => h rfl)]
  rfl

/-- The write gate. -/
theorem v32_apply (b : Fin 1024) : val_main_v32 (F := Ideal) x0 x5 x6 (ix2 b 0) = Head.gate (lin1 x0 x5 x6 b) := by
  unfold val_main_v32 val_main_v31 val_main_v30 val_main_v29 val_main_v28 val_main_v27 val_main_cst_1 val_main_cst_2
    val_main_v26 val_main_v25 val_main_v24 val_main_v23
  pointwise
  rfl

/-- The allocation gate. -/
theorem v42_apply (b : Fin 1024) : val_main_v42 (F := Ideal) x0 x5 x6 (ix2 b 0) = Head.gate (lin1 x0 x5 x6 b) := by
  unfold val_main_v42 val_main_v41 val_main_v40 val_main_v39 val_main_v38 val_main_v37 val_main_cst_3 val_main_cst_4
    val_main_v36 val_main_v35 val_main_v34 val_main_v33
  pointwise
  rfl

/-- The similarity of row `b`'s key and row `i` of its memory. -/
theorem v53_apply (b i : Fin 1024) : val_main_v53 (F := Ideal) x0 x1 x3 x4 (ix2 b i)
    = Head.similarity (lin64 x0 x3 x4 b) (fun d => x1 (ix3 b i d)) := by
  have e := v3_apply x0 x3 x4 b
  unfold val_main_v53 val_main_v52 val_main_v51 val_main_v50 val_main_v49 val_main_v48 val_main_v47 val_main_v46
    val_main_v45 val_main_v44 val_main_call1_v1 val_main_call1_v0 val_main_call2_v1 val_main_call2_v0
    val_main_call1_cst val_main_call2_cst val_main_cst_5 val_main_cst_6 val_main_v43
  generalize val_main_v3 (F := Ideal) x0 x3 x4 = lin at e ⊢
  pointwise
  simp only [e]
  rfl

/-- The content weights. -/
theorem v66_apply (b i : Fin 1024) : val_main_v66 (F := Ideal) x0 x1 x3 x4 x5 x6 (ix2 b i)
    = Head.content (Head.strength (lin1 x0 x5 x6 b))
        (fun j => Head.similarity (lin64 x0 x3 x4 b) (fun d => x1 (ix3 b j d))) i := by
  have e := v53_apply x0 x1 x3 x4 b
  have f := v8_apply x0 x5 x6 b
  unfold val_main_v66 val_main_v65 val_main_v64 val_main_v63 val_main_v62 val_main_v61 val_main_v60 val_main_v59
    val_main_v58 val_main_v57 val_main_v56 val_main_v55 val_main_v54 val_main_cst_7 val_main_cst_8 val_main_cst_9
  generalize val_main_v53 (F := Ideal) x0 x1 x3 x4 = sim at e ⊢
  generalize val_main_v8 (F := Ideal) x0 x5 x6 = s at f ⊢
  pointwise
  simp only [e, f]
  have t := Head.max_top (Head.strength (lin1 x0 x5 x6 b))
    (fun j => Head.similarity (lin64 x0 x3 x4 b) (fun d => x1 (ix3 b j d)))
  unfold Head.top at t
  rw [t]
  rfl

/-- The write weights. -/
theorem v142_apply (b i : Fin 1024) : val_main_v142 (F := Ideal) x0 x1 x2 x3 x4 x5 x6 x11 x12 x13 x14 (ix2 b i)
    = Head.write (Head.gate (lin1 x0 x11 x12 b)) (Head.gate (lin1 x0 x13 x14 b))
        (Alloc.weight (fun j => x2 (ix2 b j)) i)
        (Head.content (Head.strength (lin1 x0 x5 x6 b))
          (fun j => Head.similarity (lin64 x0 x3 x4 b) (fun d => x1 (ix3 b j d))) i) := by
  rw [← v66_apply, ← v32_apply, ← v42_apply, ← RefAlloc.v133_apply]
  unfold val_main_v142 val_main_v141 val_main_v140 val_main_v139 val_main_v138 val_main_v137 val_main_v136
    val_main_v135 val_main_v134 val_main_cst_26
  generalize val_main_v66 (F := Ideal) x0 x1 x3 x4 x5 x6 = a
  generalize val_main_v32 (F := Ideal) x0 x11 x12 = g
  generalize val_main_v42 (F := Ideal) x0 x13 x14 = ag
  generalize val_main_v133 (F := Ideal) x2 = al
  pointwise
  rfl

end Cert.RefHead

end
-- ==== Proof.Result.lean ====
/- The kernel's four result arrays are the reference's: both are the functions of Head.lean and the allocation weights,
   row by row. -/
module

public import proofs.«01_k».proof.Proof.KernelValue
public import proofs.«01_k».proof.Proof.RefHead

@[expose] public section

set_option maxRecDepth 16384

noncomputable section

namespace Cert.Result

open Idealize.ShloMosaic Idealize.ShloMosaic.TcCoe Idealize.SL.Sem
open Cert.KernelIdeal Cert.KernelValue Cert.ReferenceIdeal.Read

variable (m : (ℓ : Loc nD τ sig) → Buf (Elt Ideal) ℓ) (c : Dev nD)

/-- The erase vectors. -/
theorem erase_eq : erase m c = val_main_v18 (F := Ideal) (aH m c) (aWe m c) (aBe m c) := by
  funext i
  idx_vars i
  exact (RefHead.v18_apply (aH m c) (aWe m c) (aBe m c) i0 i1).symm

/-- The add vectors. -/
theorem add_eq : add m c = val_main_v22 (F := Ideal) (aH m c) (aWa m c) (aBa m c) := by
  funext i
  idx_vars i
  exact (RefHead.v22_apply (aH m c) (aWa m c) (aBa m c) i0 i1).symm

/-- The allocation weights. -/
theorem alloc_eq : alloc m c = val_main_v133 (F := Ideal) (aUsage m c) := by
  funext i
  idx_vars i
  exact (RefAlloc.v133_apply (aUsage m c) i0 i1).symm

/-- The write weights. -/
theorem write_eq : write m c = val_main_v142 (F := Ideal) (aH m c) (aMem m c) (aUsage m c) (aWk m c) (aBk m c)
    (aWs m c) (aBs m c) (aWg m c) (aBg m c) (aWag m c) (aBag m c) := by
  funext i
  idx_vars i
  exact (RefHead.v142_apply (aH m c) (aMem m c) (aUsage m c) (aWk m c) (aBk m c) (aWs m c) (aBs m c) (aWg m c)
    (aBg m c) (aWag m c) (aBag m c) i0 i1).symm

end Cert.Result

end
-- ==== Proof.lean ====
/- The proof of the certificate's claim: the three programs' frames; the kernel with its rounding kept and the kernel
   over the extended reals are the same text; and over the extended reals the kernel's four results are the
   reference's, where no usage is negative (Proof/Result.lean). -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import Idealize.ShloMosaic.Lib.Quiescent
public import proofs.«01_k».proof.Proof.Result

@[expose] public section

set_option maxRecDepth 16384

noncomputable section

namespace Cert.Proof

open Idealize.ShloMosaic Idealize.SL.Sem

/-- The one side condition of the precondition's program. -/
theorem preFacts : Cert.Pre_usage_nonneg.Facts := ⟨by decide⟩

attribute [local instance] Cert.Kernel.Gen.facts Cert.KernelIdeal.Gen.facts Cert.ReferenceIdeal.Gen.facts preFacts

/-- The kernel's frame. -/
theorem frame_p : Cert.quiescent_Kernel := fun m g _ => Cert.Kernel.Gen.frame m g

/-- The frame of the kernel over the extended reals, from any memory. -/
theorem frame_pi : Cert.quiescent_KernelIdeal := fun m g _ => Cert.KernelIdeal.Gen.frame m g

/-- The reference's frame: its run read at its arguments; the program has no semaphore. -/
theorem frame_ri : Cert.quiescent_ReferenceIdeal := fun m g _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

/-- The precondition says that no usage is negative. -/
theorem usage_nonneg (m : (ℓ : Loc Cert.KernelIdeal.nD Cert.KernelIdeal.τ Cert.KernelIdeal.sig) → Buf (Elt Ideal) ℓ)
    (h : Cert.Pre_KernelIdeal_usage_nonneg m) (c : Dev Cert.KernelIdeal.nD) (i : Cert.KernelIdeal.S1024x1024.Idx) :
    0 ≤ Cert.KernelValue.aUsage m c i := by
  have e := congrFun (h c) i
  unfold Cert.Pre_usage_nonneg.fn at e
  idx_vars i
  pointwise at e
  by_contra hn
  rw [decide_eq_false hn] at e
  exact absurd e (by decide)

/-- Over the extended reals, where no usage is negative, the kernel's four results are the reference's. -/
theorem algebraic : Cert.algebraic_KernelIdeal_ReferenceIdeal_pre_usage_nonneg := by
  intro m g m' g' hpre hag
  refine ⟨fun c => Cert.KernelValue.write m c, fun c => Cert.KernelValue.erase m c, fun c => Cert.KernelValue.add m c,
    fun c => Cert.KernelValue.alloc m c, ?_, ?_⟩
  · refine (θ_run Cert.KernelIdeal.defs _ _).mono (fun r h c => ?_) (Cert.KernelIdeal.Value.run_blocks m g)
    obtain ⟨h0, h1, h2, h3, hargs⟩ := h c
    have hu := usage_nonneg m hpre c
    exact ⟨h0.trans (Cert.KernelValue.final6 m c hu), h1.trans (Cert.KernelValue.final7 m c),
      h2.trans (Cert.KernelValue.final8 m c), h3.trans (Cert.KernelValue.final9 m c hu), hargs⟩
  · refine (θ_run Cert.ReferenceIdeal.defs _ _).mono (fun r h c => ?_) (Cert.ReferenceIdeal.Value.run (F := Ideal) m' g')
    obtain ⟨h0, h1, h2, h3, hargs⟩ := h c
    obtain ⟨a0, a1, a2, a3, a4, a5, a6, a7, a8, a9, a10, a11, a12, a13, a14⟩ := hag c
    refine ⟨(h0.trans (Cert.ReferenceIdeal.Read.val_main_v142_eq _)).trans ?_,
      (h1.trans (Cert.ReferenceIdeal.Read.val_main_v18_eq _)).trans ?_,
      (h2.trans (Cert.ReferenceIdeal.Read.val_main_v22_eq _)).trans ?_,
      (h3.trans (Cert.ReferenceIdeal.Read.val_main_v133_eq _)).trans ?_, hargs⟩
    · change Cert.ReferenceIdeal.Read.val_main_v142 (F := Ideal) (m' (c.tc.loc Cert.ReferenceIdeal.main_arg0))
        (m' (c.tc.loc Cert.ReferenceIdeal.main_arg1)) (m' (c.tc.loc Cert.ReferenceIdeal.main_arg2))
        (m' (c.tc.loc Cert.ReferenceIdeal.main_arg3)) (m' (c.tc.loc Cert.ReferenceIdeal.main_arg4))
        (m' (c.tc.loc Cert.ReferenceIdeal.main_arg5)) (m' (c.tc.loc Cert.ReferenceIdeal.main_arg6))
        (m' (c.tc.loc Cert.ReferenceIdeal.main_arg11)) (m' (c.tc.loc Cert.ReferenceIdeal.main_arg12))
        (m' (c.tc.loc Cert.ReferenceIdeal.main_arg13)) (m' (c.tc.loc Cert.ReferenceIdeal.main_arg14)) = _
      rw [a0, a1, a2, a3, a4, a5, a6, a11, a12, a13, a14]
      exact (Cert.Result.write_eq m c).symm
    · change Cert.ReferenceIdeal.Read.val_main_v18 (F := Ideal) (m' (c.tc.loc Cert.ReferenceIdeal.main_arg0))
        (m' (c.tc.loc Cert.ReferenceIdeal.main_arg7)) (m' (c.tc.loc Cert.ReferenceIdeal.main_arg8)) = _
      rw [a0, a7, a8]
      exact (Cert.Result.erase_eq m c).symm
    · change Cert.ReferenceIdeal.Read.val_main_v22 (F := Ideal) (m' (c.tc.loc Cert.ReferenceIdeal.main_arg0))
        (m' (c.tc.loc Cert.ReferenceIdeal.main_arg9)) (m' (c.tc.loc Cert.ReferenceIdeal.main_arg10)) = _
      rw [a0, a9, a10]
      exact (Cert.Result.add_eq m c).symm
    · change Cert.ReferenceIdeal.Read.val_main_v133 (F := Ideal) (m' (c.tc.loc Cert.ReferenceIdeal.main_arg2)) = _
      rw [a2]
      exact (Cert.Result.alloc_eq m c).symm

/-- Everything the certificate claims. -/
theorem claim : Cert.Claim := ⟨Cert.Kernel.Gen.facts, Cert.KernelIdeal.Gen.facts, Cert.ReferenceIdeal.Gen.facts, preFacts,
  frame_p, frame_pi, fun m g _ => frame_pi m g trivial, frame_ri, fun m g _ => frame_ri m g trivial, trivial, algebraic⟩

end Cert.Proof

end
